-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_selected [hPre_selected : Cert.Pre_selected.Facts] (m : (ℓ : Loc Cert.KernelIdeal.nD Cert.KernelIdeal.τ Cert.KernelIdeal.sig) → Buf (Elt Ideal) ℓ) : Prop :=
  ∀ c : Dev Cert.KernelIdeal.nD,
    (Cert.Pre_selected.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_selected [hPre_selected : Cert.Pre_selected.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_selected.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_words [hPre_words : Cert.Pre_words.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_words.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_words [hPre_words : Cert.Pre_words.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_words.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_selected [hKernelIdeal : Cert.KernelIdeal.Facts] [hPre_selected : Cert.Pre_selected.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_selected m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_selected [hReferenceIdeal : Cert.ReferenceIdeal.Facts] [hPre_selected : Cert.Pre_selected.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_selected m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_words [hKernel2Ideal : Cert.Kernel2Ideal.Facts] [hPre_words : Cert.Pre_words.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_words m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_words [hReference2Ideal : Cert.Reference2Ideal.Facts] [hPre_words : Cert.Pre_words.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_words m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def preserves_Kernel_KernelIdeal : Prop :=
  True

def algebraic_KernelIdeal_ReferenceIdeal_pre_selected [hKernelIdeal : Cert.KernelIdeal.Facts] [hReferenceIdeal : Cert.ReferenceIdeal.Facts] [hPre_selected : Cert.Pre_selected.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_selected m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_values_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal_pre_words [hKernel2Ideal : Cert.Kernel2Ideal.Facts] [hReference2Ideal : Cert.Reference2Ideal.Facts] [hPre_words : Cert.Pre_words.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_words m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_selected : Cert.Pre_selected.Facts) (hPre_words : Cert.Pre_words.Facts),
    quiescent_Kernel (hKernel := hKernel)
    ∧ quiescent_KernelIdeal (hKernelIdeal := hKernelIdeal)
    ∧ quiescent_KernelIdeal_pre_selected (hKernelIdeal := hKernelIdeal) (hPre_selected := hPre_selected)
    ∧ quiescent_ReferenceIdeal (hReferenceIdeal := hReferenceIdeal)
    ∧ quiescent_ReferenceIdeal_pre_selected (hReferenceIdeal := hReferenceIdeal) (hPre_selected := hPre_selected)
    ∧ quiescent_Kernel2 (hKernel2 := hKernel2)
    ∧ quiescent_Kernel2Ideal (hKernel2Ideal := hKernel2Ideal)
    ∧ quiescent_Kernel2Ideal_pre_words (hKernel2Ideal := hKernel2Ideal) (hPre_words := hPre_words)
    ∧ quiescent_Reference2Ideal (hReference2Ideal := hReference2Ideal)
    ∧ quiescent_Reference2Ideal_pre_words (hReference2Ideal := hReference2Ideal) (hPre_words := hPre_words)
    ∧ preserves_Kernel_KernelIdeal
    ∧ algebraic_KernelIdeal_ReferenceIdeal_pre_selected (hKernelIdeal := hKernelIdeal) (hReferenceIdeal := hReferenceIdeal) (hPre_selected := hPre_selected)
    ∧ preserves_Kernel2_Kernel2Ideal
    ∧ algebraic_Kernel2Ideal_Reference2Ideal_pre_words (hKernel2Ideal := hKernel2Ideal) (hReference2Ideal := hReference2Ideal) (hPre_words := hPre_words)
-- ==== Pre_selected.lean ====
abbrev S1024x8 : Shape := ⟨2, ![1024, 8]⟩
abbrev S1000x1 : Shape := ⟨2, ![1000, 1]⟩
abbrev S1000 : Shape := ⟨1, ![1000]⟩
abbrev S_ : Shape := ⟨0, ![]⟩
abbrev S999x1 : Shape := ⟨2, ![999, 1]⟩
abbrev S999 : Shape := ⟨1, ![999]⟩
abbrev S24x1 : Shape := ⟨2, ![24, 1]⟩
abbrev S24 : Shape := ⟨1, ![24]⟩

class Facts : Prop where
  slices_S1024x8_S1000x1_0_6 : S1024x8.Slices ![0, 6] S1000x1
  shapeCasts_S1000x1_S1000 : S1000x1.ShapeCasts S1000
  bcast_S_S1000 : S_.BroadcastsInDim S1000 (![] : Fin 0 → Fin S1000.rank)
  reducesTo_S1000_S_d0 : S1000.ReducesTo [0] S_
  h_S_ : 0 < S_.numel
  slices_S1024x8_S999x1_0_7 : S1024x8.Slices ![0, 7] S999x1
  shapeCasts_S999x1_S999 : S999x1.ShapeCasts S999
  slices_S1024x8_S999x1_1_7 : S1024x8.Slices ![1, 7] S999x1
  reducesTo_S999_S_d0 : S999.ReducesTo [0] S_
  slices_S1024x8_S24x1_1000_6 : S1024x8.Slices ![1000, 6] S24x1
  shapeCasts_S24x1_S24 : S24x1.ShapeCasts S24
  bcast_S_S24 : S_.BroadcastsInDim S24 (![] : Fin 0 → Fin S24.rank)
  reducesTo_S24_S_d0 : S24.ReducesTo [0] S_

variable [Facts]

def fn {F : FTy → Type} [FloatOps F] (main_arg0 : FVec F S1024x8 .f32) : IVec S_ 1 :=
  let main_v0 : FVec F S1000x1 .f32 := (extractStridedSlice S1000x1 ![0, 6] · slices_S1024x8_S1000x1_0_6) main_arg0
  let main_v1 : FVec F S1000 .f32 := shapeCast S1000 main_v0 shapeCasts_S1000x1_S1000
  let main_cst : FVec F S_ .f32 := constant S_ .f32 0xBF800000#32
  let main_v2 : FVec F S1000 .f32 := broadcastInDim S1000 ![] bcast_S_S1000 main_cst
  let main_v3 : IVec S1000 1 := cmpf .ogt main_v1 main_v2
  let main_c : IVec S_ 1 := constantI S_ 1 1#1
  let main_v4 : IVec S_ 1 := (fun x v => Host.reduce IntOp.andi x v reducesTo_S1000_S_d0 h_S_) main_v3 main_c
  let main_v5 : FVec F S999x1 .f32 := (extractStridedSlice S999x1 ![0, 7] · slices_S1024x8_S999x1_0_7) main_arg0
  let main_v6 : FVec F S999 .f32 := shapeCast S999 main_v5 shapeCasts_S999x1_S999
  let main_v7 : FVec F S999x1 .f32 := (extractStridedSlice S999x1 ![1, 7] · slices_S1024x8_S999x1_1_7) main_arg0
  let main_v8 : FVec F S999 .f32 := shapeCast S999 main_v7 shapeCasts_S999x1_S999
  let main_v9 : IVec S999 1 := cmpf .olt main_v6 main_v8
  let main_c_0 : IVec S_ 1 := constantI S_ 1 1#1
  let main_v10 : IVec S_ 1 := (fun x v => Host.reduce IntOp.andi x v reducesTo_S999_S_d0 h_S_) main_v9 main_c_0
  let main_v11 : IVec S_ 1 := andi main_v4 main_v10
  let main_v12 : FVec F S24x1 .f32 := (extractStridedSlice S24x1 ![1000, 6] · slices_S1024x8_S24x1_1000_6) main_arg0
  let main_v13 : FVec F S24 .f32 := shapeCast S24 main_v12 shapeCasts_S24x1_S24
  let main_cst_1 : FVec F S_ .f32 := constant S_ .f32 0x00000000#32
  let main_v14 : FVec F S24 .f32 := broadcastInDim S24 ![] bcast_S_S24 main_cst_1
  let main_v15 : IVec S24 1 := cmpf .ole main_v13 main_v14
  let main_c_2 : IVec S_ 1 := constantI S_ 1 1#1
  let main_v16 : IVec S_ 1 := (fun x v => Host.reduce IntOp.andi x v reducesTo_S24_S_d0 h_S_) main_v15 main_c_2
  let main_v17 : IVec S_ 1 := andi main_v11 main_v16
  main_v17
-- ==== Pre_words.lean ====
abbrev S20480 : Shape := ⟨1, ![20480]⟩
abbrev S20480x8 : Shape := ⟨2, ![20480, 8]⟩
abbrev S20000 : Shape := ⟨1, ![20000]⟩
abbrev S_ : Shape := ⟨0, ![]⟩

class Facts : Prop where
  slices_S20480_S20000_0 : S20480.Slices ![0] S20000
  bcast_S_S20000 : S_.BroadcastsInDim S20000 (![] : Fin 0 → Fin S20000.rank)
  reducesTo_S20000_S_d0 : S20000.ReducesTo [0] S_
  h_S_ : 0 < S_.numel

variable [Facts]

def fn {F : FTy → Type} [FloatOps F] (main_arg0 : IVec S20480 32) (main_arg1 : FVec F S20480x8 .f32) : IVec S_ 1 :=
  let main_v0 : IVec S20000 32 := (extractStridedSlice S20000 ![0] · slices_S20480_S20000_0) main_arg0
  let main_c : IVec S_ 32 := constantI S_ 32 0#32
  let main_v1 : IVec S20000 32 := broadcastInDim S20000 ![] bcast_S_S20000 main_c
  let main_v2 : IVec S20000 1 := cmpi .sge main_v0 main_v1
  let main_c_0 : IVec S_ 1 := constantI S_ 1 1#1
  let main_v3 : IVec S_ 1 := (fun x v => Host.reduce IntOp.andi x v reducesTo_S20000_S_d0 h_S_) main_v2 main_c_0
  main_v3
-- ==== Kernel.lean ====
abbrev S1024x8 : Shape := ⟨2, ![1024, 8]⟩
abbrev S8x1024 : Shape := ⟨2, ![8, 1024]⟩
abbrev S1024x1024 : Shape := ⟨2, ![1024, 1024]⟩
abbrev S1x128 : Shape := ⟨2, ![1, 128]⟩
abbrev S1x1024 : Shape := ⟨2, ![1, 1024]⟩
abbrev S128x1 : Shape := ⟨2, ![128, 1]⟩
abbrev S128x1024 : Shape := ⟨2, ![128, 1024]⟩
abbrev S128 : Shape := ⟨1, ![128]⟩
abbrev S1024x1 : Shape := ⟨2, ![1024, 1]⟩
abbrev S128x8 : Shape := ⟨2, ![128, 8]⟩
abbrev S8x128 : Shape := ⟨2, ![8, 128]⟩
abbrev S128x128 : Shape := ⟨2, ![128, 128]⟩
abbrev S1x896 : Shape := ⟨2, ![1, 896]⟩
abbrev S1x768 : Shape := ⟨2, ![1, 768]⟩
abbrev S1x256 : Shape := ⟨2, ![1, 256]⟩
abbrev S1x640 : Shape := ⟨2, ![1, 640]⟩
abbrev S1x384 : Shape := ⟨2, ![1, 384]⟩
abbrev S1x512 : Shape := ⟨2, ![1, 512]⟩
abbrev S1 : Shape := ⟨1, ![1]⟩
abbrev S1x1 : Shape := ⟨2, ![1, 1]⟩
abbrev S1024x128 : Shape := ⟨2, ![1024, 128]⟩
abbrev S1000x6 : Shape := ⟨2, ![1000, 6]⟩
abbrev S1000x1 : Shape := ⟨2, ![1000, 1]⟩
abbrev S1000 : Shape := ⟨1, ![1000]⟩
abbrev S_ : Shape := ⟨0, ![]⟩

abbrev nBuf : Space → Nat
  | .hbm => 15
  | .vmem => 4
  | .smem => 0
  | _ => 0

abbrev bufTy : (tb : Table) → Fin (tcTables nBuf tb) → BufTy
  | .hbm, ⟨0, _⟩ => ⟨S1024x8, .f32⟩
  | .hbm, ⟨1, _⟩ => ⟨S8x1024, .f32⟩
  | .hbm, ⟨2, _⟩ => ⟨S1024x8, .f32⟩
  | .hbm, ⟨3, _⟩ => ⟨S1000x6, .f32⟩
  | .hbm, ⟨4, _⟩ => ⟨S1000x1, .f32⟩
  | .hbm, ⟨5, _⟩ => ⟨S1000, .f32⟩
  | .hbm, ⟨6, _⟩ => ⟨S_, .f32⟩
  | .hbm, ⟨7, _⟩ => ⟨S1000, .f32⟩
  | .hbm, ⟨8, _⟩ => ⟨S1000, .i1⟩
  | .hbm, ⟨9, _⟩ => ⟨S1000x1, .f32⟩
  | .hbm, ⟨10, _⟩ => ⟨S1000, .f32⟩
  | .hbm, ⟨11, _⟩ => ⟨S_, .f32⟩
  | .hbm, ⟨12, _⟩ => ⟨S_, .f32⟩
  | .hbm, ⟨13, _⟩ => ⟨S1000, .f32⟩
  | .hbm, ⟨14, _⟩ => ⟨S1000, .f32⟩
  | .local _ .vmem, ⟨0, _⟩ => ⟨S1024x8, .f32⟩
  | .local _ .vmem, ⟨1, _⟩ => ⟨S8x1024, .f32⟩
  | .local _ .vmem, ⟨2, _⟩ => ⟨S1024x8, .f32⟩
  | .local _ .vmem, ⟨3, _⟩ => ⟨S1024x1024, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v938 : BitVec 32 := Scalar.addi c0_i32 c128_i32
  let c1_i32 : BitVec 32 := 1#32
  ⟨c0_i32, v938, c1_i32⟩
@[reducible] def k0_t2_loop : Scf.Loop 32 :=
  let c0_i32_196 : BitVec 32 := 0#32
  let c128_i32_197 : BitVec 32 := 128#32
  let v963 : BitVec 32 := Scalar.addi c0_i32_196 c128_i32_197
  let c1_i32_198 : BitVec 32 := 1#32
  ⟨c0_i32_196, v963, c1_i32_198⟩
@[reducible] def k0_t3_loop : Scf.Loop 32 :=
  let c0_i32_214 : BitVec 32 := 0#32
  let c128_i32_215 : BitVec 32 := 128#32
  let v989 : BitVec 32 := Scalar.addi c0_i32_214 c128_i32_215
  let c1_i32_216 : BitVec 32 := 1#32
  ⟨c0_i32_214, v989, c1_i32_216⟩
@[reducible] def k0_t4_loop : Scf.Loop 32 :=
  let c0_i32_232 : BitVec 32 := 0#32
  let c128_i32_233 : BitVec 32 := 128#32
  let v1015 : BitVec 32 := Scalar.addi c0_i32_232 c128_i32_233
  let c1_i32_234 : BitVec 32 := 1#32
  ⟨c0_i32_232, v1015, c1_i32_234⟩
@[reducible] def k0_t5_loop : Scf.Loop 32 :=
  let c0_i32_250 : BitVec 32 := 0#32
  let c128_i32_251 : BitVec 32 := 128#32
  let v1041 : BitVec 32 := Scalar.addi c0_i32_250 c128_i32_251
  let c1_i32_252 : BitVec 32 := 1#32
  ⟨c0_i32_250, v1041, c1_i32_252⟩
@[reducible] def k0_t6_loop : Scf.Loop 32 :=
  let c0_i32_268 : BitVec 32 := 0#32
  let c128_i32_269 : BitVec 32 := 128#32
  let v1067 : BitVec 32 := Scalar.addi c0_i32_268 c128_i32_269
  let c1_i32_270 : BitVec 32 := 1#32
  ⟨c0_i32_268, v1067, c1_i32_270⟩
@[reducible] def k0_t7_loop : Scf.Loop 32 :=
  let c0_i32_286 : BitVec 32 := 0#32
  let c128_i32_287 : BitVec 32 := 128#32
  let v1093 : BitVec 32 := Scalar.addi c0_i32_286 c128_i32_287
  let c1_i32_288 : BitVec 32 := 1#32
  ⟨c0_i32_286, v1093, c1_i32_288⟩
@[reducible] def k0_t8_loop : Scf.Loop 32 :=
  let c0_i32_304 : BitVec 32 := 0#32
  let c128_i32_305 : BitVec 32 := 128#32
  let v1119 : BitVec 32 := Scalar.addi c0_i32_304 c128_i32_305
  let c1_i32_306 : BitVec 32 := 1#32
  ⟨c0_i32_304, v1119, c1_i32_306⟩
abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x8 : Shape := ⟨2, ![1024, 8]⟩
abbrev S1000x6 : Shape := ⟨2, ![1000, 6]⟩
abbrev S1000x1 : Shape := ⟨2, ![1000, 1]⟩
abbrev S1000 : Shape := ⟨1, ![1000]⟩
abbrev S_ : Shape := ⟨0, ![]⟩
abbrev S1 : Shape := ⟨1, ![1]⟩
abbrev S1x1 : Shape := ⟨2, ![1, 1]⟩
abbrev S1000x3 : Shape := ⟨2, ![1000, 3]⟩
abbrev S1000x1x3 : Shape := ⟨3, ![1000, 1, 3]⟩
abbrev S1x1000x3 : Shape := ⟨3, ![1, 1000, 3]⟩
abbrev S1000x1000x3 : Shape := ⟨3, ![1000, 1000, 3]⟩
abbrev S1000x1000x1 : Shape := ⟨3, ![1000, 1000, 1]⟩
abbrev S1000x1000 : Shape := ⟨2, ![1000, 1000]⟩
abbrev S1x1000 : Shape := ⟨2, ![1, 1000]⟩

abbrev nBuf : Space → Nat
  | .hbm => 162
  | .vmem => 0
  | .smem => 0
  | _ => 0

abbrev hbmTy0_0 (i : Nat) : BufTy := match i % 128 with
  | 0 => ⟨S1024x8, .f32⟩
  | 1 => ⟨S1000x6, .f32⟩
  | 2 => ⟨S1000x1, .f32⟩
  | 3 => ⟨S1000, .f32⟩
  | 4 => ⟨S1000, .f32⟩
  | 5 => ⟨S1000, .i32⟩
  | 6 => ⟨S_, .i32⟩
  | 7 => ⟨S1000, .i32⟩
  | 8 => ⟨S1000, .i1⟩
  | 9 => ⟨S_, .i32⟩
  | 10 => ⟨S1000, .i32⟩
  | 11 => ⟨S1000, .i32⟩
  | 12 => ⟨S1000, .i32⟩
  | 13 => ⟨S1000x1, .i32⟩
  | 14 => ⟨S1, .i32⟩
  | 15 => ⟨S_, .i32⟩
  | 16 => ⟨S1000x1, .i32⟩
  | 17 => ⟨S1000x1, .i1⟩
  | 18 => ⟨S1x1, .i32⟩
  | 19 => ⟨S1000x1, .i32⟩
  | 20 => ⟨S1000x1, .i1⟩
  | 21 => ⟨S1000x1, .i1⟩
  | 22 => ⟨S_, .i1⟩
  | 23 => ⟨S1000, .i1⟩
  | 24 => ⟨S1000x6, .f32⟩
  | 25 => ⟨S1000x6, .i1⟩
  | 26 => ⟨S_, .f32⟩
  | 27 => ⟨S1000x6, .f32⟩
  | 28 => ⟨S1000x6, .f32⟩
  | 29 => ⟨S_, .f32⟩
  | 30 => ⟨S_, .f32⟩
  | 31 => ⟨S_, .f32⟩
  | 32 => ⟨S1000x6, .f32⟩
  | 33 => ⟨S1000x6, .f32⟩
  | 34 => ⟨S_, .f32⟩
  | 35 => ⟨S1000x6, .f32⟩
  | 36 => ⟨S1000x6, .f32⟩
  | 37 => ⟨S_, .f32⟩
  | 38 => ⟨S1000, .f32⟩
  | 39 => ⟨S1000, .i1⟩
  | 40 => ⟨S1000x3, .f32⟩
  | 41 => ⟨S1000x3, .f32⟩
  | 42 => ⟨S1000x3, .f32⟩
  | 43 => ⟨S1000x1, .f32⟩
  | 44 => ⟨S1000, .f32⟩
  | 45 => ⟨S1000x1, .f32⟩
  | 46 => ⟨S1000, .f32⟩
  | 47 => ⟨S1000, .f32⟩
  | 48 => ⟨S1000x1, .f32⟩
  | 49 => ⟨S1000, .f32⟩
  | 50 => ⟨S1000, .f32⟩
  | 51 => ⟨S1000x1x3, .f32⟩
  | 52 => ⟨S1x1000x3, .f32⟩
  | 53 => ⟨S1000x1000x3, .f32⟩
  | 54 => ⟨S1000x1000x3, .f32⟩
  | 55 => ⟨S1000x1000x3, .f32⟩
  | 56 => ⟨S1000x1x3, .f32⟩
  | 57 => ⟨S1x1000x3, .f32⟩
  | 58 => ⟨S1000x1000x3, .f32⟩
  | 59 => ⟨S1000x1000x3, .f32⟩
  | 60 => ⟨S1000x1000x3, .f32⟩
  | 61 => ⟨S1000x1000x3, .f32⟩
  | 62 => ⟨S_, .f32⟩
  | 63 => ⟨S_, .f32⟩
  | 64 => ⟨S1000x1000x3, .f32⟩
  | 65 => ⟨S1000x1000x3, .f32⟩
  | 66 => ⟨S1000x1000x1, .f32⟩
  | 67 => ⟨S1000x1000, .f32⟩
  | 68 => ⟨S1000x1000x1, .f32⟩
  | 69 => ⟨S1000x1000, .f32⟩
  | 70 => ⟨S1000x1000, .f32⟩
  | 71 => ⟨S1000x1000x1, .f32⟩
  | 72 => ⟨S1000x1000, .f32⟩
  | 73 => ⟨S1000x1000, .f32⟩
  | 74 => ⟨S1000x1, .f32⟩
  | 75 => ⟨S1x1000, .f32⟩
  | 76 => ⟨S1000x1000, .f32⟩
  | 77 => ⟨S1000x1000, .f32⟩
  | 78 => ⟨S1000x1000, .f32⟩
  | 79 => ⟨S1000x1000, .f32⟩
  | 80 => ⟨S_, .f32⟩
  | 81 => ⟨S1000x1000, .f32⟩
  | 82 => ⟨S1000x1000, .f32⟩
  | 83 => ⟨S1000x1000, .f32⟩
  | 84 => ⟨S1000, .i32⟩
  | 85 => ⟨S_, .i32⟩
  | 86 => ⟨S_, .i32⟩
  | 87 => ⟨S1000x1000, .f32⟩
  | 88 => ⟨S1000, .i32⟩
  | 89 => ⟨S_, .i32⟩
  | 90 => ⟨S_, .i32⟩
  | 91 => ⟨S1000, .i1⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S1x1000, .f32⟩
  | 111 => ⟨S1000, .f32⟩
  | 112 => ⟨S_, .f32⟩
  | 113 => ⟨S1000, .f32⟩
  | 114 => ⟨S1000, .i1⟩
  | 115 => ⟨S_, .i32⟩
  | 116 => ⟨S1000, .i32⟩
  | 117 => ⟨S1000, .i1⟩
  | 118 => ⟨S1000, .i1⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S1, .i1⟩
  | 126 => ⟨S_, .i1⟩
  | 127 => ⟨S1000, .i1⟩
  | _ => ⟨S1024x8, .f32⟩

abbrev hbmTy0_1 (i : Nat) : BufTy := match i % 128 with
  | 0 => ⟨S1000, .i1⟩
  | 1 => ⟨S1000, .i1⟩
  | 2 => ⟨S1000, .i1⟩
  | 3 => ⟨S_, .i32⟩
  | 4 => ⟨S_, .i32⟩
  | 5 => ⟨S_, .f32⟩
  | 6 => ⟨S_, .f32⟩
  | 7 => ⟨S1000, .f32⟩
  | 8 => ⟨S1000, .f32⟩
  | 9 => ⟨S1000, .f32⟩
  | 10 => ⟨S1000, .i32⟩
  | 11 => ⟨S_, .i32⟩
  | 12 => ⟨S1000, .i32⟩
  | 13 => ⟨S1000, .i1⟩
  | 14 => ⟨S_, .i32⟩
  | 15 => ⟨S1000, .i32⟩
  | 16 => ⟨S1000, .i32⟩
  | 17 => ⟨S1000, .i32⟩
  | 18 => ⟨S1000x1, .i32⟩
  | 19 => ⟨S1, .i32⟩
  | 20 => ⟨S_, .i32⟩
  | 21 => ⟨S1000x1, .i32⟩
  | 22 => ⟨S1000x1, .i1⟩
  | 23 => ⟨S1x1, .i32⟩
  | 24 => ⟨S1000x1, .i32⟩
  | 25 => ⟨S1000x1, .i1⟩
  | 26 => ⟨S1000x1, .i1⟩
  | 27 => ⟨S_, .i1⟩
  | 28 => ⟨S1000, .i1⟩
  | 29 => ⟨S1000x6, .f32⟩
  | 30 => ⟨S1000x6, .i1⟩
  | 31 => ⟨S_, .f32⟩
  | 32 => ⟨S1000x6, .f32⟩
  | 33 => ⟨S1000x6, .f32⟩
  | _ => ⟨S1024x8, .f32⟩

abbrev hbmTy (i : Nat) : BufTy := match i / 128 with
  | 0 => hbmTy0_0 i
  | 1 => hbmTy0_1 i
  | _ => ⟨S1024x8, .f32⟩

abbrev bufTy : (tb : Table) → Fin (tcTables nBuf tb) → BufTy
  | .hbm, ⟨i, _⟩ => hbmTy i
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_values : Ref sig .tc := ⟨.hbm, 4, rfl⟩
abbrev main_indices : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩
abbrev main_cst : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v4 : Ref sig .tc := ⟨.hbm, 36, rfl⟩
abbrev main_cst_1 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_2 : Ref sig .tc := ⟨.hbm, 62, rfl⟩
abbrev main_call2_v0 : Ref sig .tc := ⟨.hbm, 63, rfl⟩
abbrev main_call2_v1 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_3 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_c : Ref sig .tc := ⟨.hbm, 85, rfl⟩
abbrev main_c_4 : Ref sig .tc := ⟨.hbm, 86, rfl⟩
abbrev main_v48_0 : Ref sig .tc := ⟨.hbm, 87, rfl⟩
abbrev main_v48_1 : Ref sig .tc := ⟨.hbm, 88, rfl⟩
abbrev main_v48_2 : Ref sig .tc := ⟨.hbm, 89, rfl⟩
abbrev main_v48_3 : Ref sig .tc := ⟨.hbm, 90, rfl⟩
abbrev main_v48_4 : Ref sig .tc := ⟨.hbm, 91, rfl⟩
abbrev main_while0c_c_12 : Ref sig .tc := ⟨.hbm, 92, rfl⟩
abbrev main_while0c_v51 : Ref sig .tc := ⟨.hbm, 93, rfl⟩
abbrev main_while0b_c_12 : Ref sig .tc := ⟨.hbm, 94, rfl⟩
abbrev main_while0b_v51 : Ref sig .tc := ⟨.hbm, 95, rfl⟩
abbrev main_while0b_v52 : Ref sig .tc := ⟨.hbm, 96, rfl⟩
abbrev main_while0b_c_13 : Ref sig .tc := ⟨.hbm, 97, rfl⟩
abbrev main_while0b_v53 : Ref sig .tc := ⟨.hbm, 98, rfl⟩
abbrev main_while0b_c_14 : Ref sig .tc := ⟨.hbm, 99, rfl⟩
abbrev main_while0b_v54 : Ref sig .tc := ⟨.hbm, 100, rfl⟩
abbrev main_while0b_v55 : Ref sig .tc := ⟨.hbm, 101, rfl⟩
abbrev main_while0b_c_15 : Ref sig .tc := ⟨.hbm, 102, rfl⟩
abbrev main_while0b_c_16 : Ref sig .tc := ⟨.hbm, 103, rfl⟩
abbrev main_while0b_v56 : Ref sig .tc := ⟨.hbm, 104, rfl⟩
abbrev main_while0b_c_17 : Ref sig .tc := ⟨.hbm, 105, rfl⟩
abbrev main_while0b_c_18 : Ref sig .tc := ⟨.hbm, 106, rfl⟩
abbrev main_while0b_v57 : Ref sig .tc := ⟨.hbm, 107, rfl⟩
abbrev main_while0b_c_19 : Ref sig .tc := ⟨.hbm, 108, rfl⟩
abbrev main_while0b_v58 : Ref sig .tc := ⟨.hbm, 109, rfl⟩
abbrev main_while0b_v59 : Ref sig .tc := ⟨.hbm, 110, rfl⟩
abbrev main_while0b_v60 : Ref sig .tc := ⟨.hbm, 111, rfl⟩
abbrev main_while0b_cst_20 : Ref sig .tc := ⟨.hbm, 112, rfl⟩
abbrev main_while0b_v61 : Ref sig .tc := ⟨.hbm, 113, rfl⟩
abbrev main_while0b_v62 : Ref sig .tc := ⟨.hbm, 114, rfl⟩
abbrev main_while0b_v63 : Ref sig .tc := ⟨.hbm, 115, rfl⟩
abbrev main_while0b_v64 : Ref sig .tc := ⟨.hbm, 116, rfl⟩
abbrev main_while0b_v65 : Ref sig .tc := ⟨.hbm, 117, rfl⟩
abbrev main_while0b_v66 : Ref sig .tc := ⟨.hbm, 118, rfl⟩
abbrev main_while0b_c_21 : Ref sig .tc := ⟨.hbm, 119, rfl⟩
abbrev main_while0b_v67 : Ref sig .tc := ⟨.hbm, 120, rfl⟩
abbrev main_while0b_v68 : Ref sig .tc := ⟨.hbm, 121, rfl⟩
abbrev main_while0b_c_22 : Ref sig .tc := ⟨.hbm, 122, rfl⟩
abbrev main_while0b_v69 : Ref sig .tc := ⟨.hbm, 123, rfl⟩
abbrev main_while0b_v70 : Ref sig .tc := ⟨.hbm, 124, rfl⟩
abbrev main_while0b_v71 : Ref sig .tc := ⟨.hbm, 125, rfl⟩
abbrev main_while0b_v72 : Ref sig .tc := ⟨.hbm, 126, rfl⟩
abbrev main_while0b_v73 : Ref sig .tc := ⟨.hbm, 127, rfl⟩
abbrev main_while0b_v74 : Ref sig .tc := ⟨.hbm, 128, rfl⟩
abbrev main_while0b_v75 : Ref sig .tc := ⟨.hbm, 129, rfl⟩
abbrev main_while0b_v76 : Ref sig .tc := ⟨.hbm, 130, rfl⟩
abbrev main_while0b_c_23 : Ref sig .tc := ⟨.hbm, 131, rfl⟩
abbrev main_while0b_v77 : Ref sig .tc := ⟨.hbm, 132, rfl⟩
abbrev main_cst_5 : Ref sig .tc := ⟨.hbm, 133, rfl⟩
abbrev main_call3_v0 : Ref sig .tc := ⟨.hbm, 134, rfl⟩
abbrev main_call3_v1 : Ref sig .tc := ⟨.hbm, 135, rfl⟩
abbrev main_v49 : Ref sig .tc := ⟨.hbm, 136, rfl⟩
abbrev main_values_6 : Ref sig .tc := ⟨.hbm, 137, rfl⟩
abbrev main_indices_7 : Ref sig .tc := ⟨.hbm, 138, rfl⟩
abbrev main_call4_c : Ref sig .tc := ⟨.hbm, 139, rfl⟩
abbrev main_call4_v0 : Ref sig .tc := ⟨.hbm, 140, rfl⟩
abbrev main_call4_v1 : Ref sig .tc := ⟨.hbm, 141, rfl⟩
abbrev main_call4_c_0 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_call4_v5 : Ref sig .tc := ⟨.hbm, 146, rfl⟩
abbrev main_call4_c_1 : Ref sig .tc := ⟨.hbm, 147, rfl⟩
abbrev main_call4_c_2 : Ref sig .tc := ⟨.hbm, 148, rfl⟩
abbrev main_call4_v6 : Ref sig .tc := ⟨.hbm, 149, rfl⟩
abbrev main_call4_v7 : Ref sig .tc := ⟨.hbm, 150, rfl⟩
abbrev main_call4_v8 : Ref sig .tc := ⟨.hbm, 151, rfl⟩
abbrev main_call4_v9 : Ref sig .tc := ⟨.hbm, 152, rfl⟩
abbrev main_call4_v10 : Ref sig .tc := ⟨.hbm, 153, rfl⟩
abbrev main_call4_v11 : Ref sig .tc := ⟨.hbm, 154, rfl⟩
abbrev main_call4_c_3 : Ref sig .tc := ⟨.hbm, 155, rfl⟩
abbrev main_call4_v12 : Ref sig .tc := ⟨.hbm, 156, rfl⟩
abbrev main_call4_v13 : Ref sig .tc := ⟨.hbm, 157, rfl⟩
abbrev main_call4_v14 : Ref sig .tc := ⟨.hbm, 158, rfl⟩
abbrev main_call4_cst : Ref sig .tc := ⟨.hbm, 159, rfl⟩
abbrev main_call4_v15 : Ref sig .tc := ⟨.hbm, 160, rfl⟩
abbrev main_v50 : Ref sig .tc := ⟨.hbm, 161, rfl⟩

abbrev nD : Nat := 1
abbrev τ : Topo := Topo.v7x

variable {F : FTy → Type} [FloatOps F]

abbrev main_while0_count : Scf.Loop 32 := ⟨0#32, 1000#32, 1#32⟩
-- ==== Kernel2.lean ====
abbrev S20480 : Shape := ⟨1, ![20480]⟩
abbrev S20480x8 : Shape := ⟨2, ![20480, 8]⟩
abbrev S160x128 : Shape := ⟨2, ![160, 128]⟩
abbrev S20480x1 : Shape := ⟨2, ![20480, 1]⟩
abbrev S1024x8 : Shape := ⟨2, ![1024, 8]⟩
abbrev S1024x1 : Shape := ⟨2, ![1024, 1]⟩
abbrev S1x4 : Shape := ⟨2, ![1, 4]⟩
abbrev S1x1 : Shape := ⟨2, ![1, 1]⟩
abbrev S1x160x128 : Shape := ⟨3, ![1, 160, 128]⟩
abbrev S1 : Shape := ⟨1, ![1]⟩
abbrev S1x1x1 : Shape := ⟨3, ![1, 1, 1]⟩
abbrev S1024x1024 : Shape := ⟨2, ![1024, 1024]⟩
abbrev S1x1024x1 : Shape := ⟨3, ![1, 1024, 1]⟩

abbrev nBuf : Space → Nat
  | .hbm => 5
  | .vmem => 6
  | .smem => 1
  | _ => 0

abbrev bufTy : (tb : Table) → Fin (tcTables nBuf tb) → BufTy
  | .hbm, ⟨0, _⟩ => ⟨S20480, .i32⟩
  | .hbm, ⟨1, _⟩ => ⟨S20480x8, .f32⟩
  | .hbm, ⟨2, _⟩ => ⟨S160x128, .i32⟩
  | .hbm, ⟨3, _⟩ => ⟨S20480x1, .i32⟩
  | .hbm, ⟨4, _⟩ => ⟨S1024x8, .f32⟩
  | .local _ .vmem, ⟨0, _⟩ => ⟨S160x128, .i32⟩
  | .local _ .vmem, ⟨1, _⟩ => ⟨S1024x1, .i32⟩
  | .local _ .vmem, ⟨2, _⟩ => ⟨S1024x1, .i32⟩
  | .local _ .vmem, ⟨3, _⟩ => ⟨S1024x8, .f32⟩
  | .local _ .vmem, ⟨4, _⟩ => ⟨S1024x8, .f32⟩
  | .local _ .vmem, ⟨5, _⟩ => ⟨S1024x8, .f32⟩
  | .local _ .smem, ⟨0, _⟩ => ⟨S1x4, .i32⟩
  | _, _ => ⟨S20480, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S160x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference2Ideal.lean ====
abbrev S20480 : Shape := ⟨1, ![20480]⟩
abbrev S20480x8 : Shape := ⟨2, ![20480, 8]⟩
abbrev S1000 : Shape := ⟨1, ![1000]⟩
abbrev S_ : Shape := ⟨0, ![]⟩
abbrev S1000x1 : Shape := ⟨2, ![1000, 1]⟩
abbrev S1 : Shape := ⟨1, ![1]⟩
abbrev S1x1 : Shape := ⟨2, ![1, 1]⟩
abbrev S1000x8 : Shape := ⟨2, ![1000, 8]⟩
abbrev S1024x8 : Shape := ⟨2, ![1024, 8]⟩

abbrev nBuf : Space → Nat
  | .hbm => 31
  | .vmem => 0
  | .smem => 0
  | _ => 0

abbrev bufTy : (tb : Table) → Fin (tcTables nBuf tb) → BufTy
  | .hbm, ⟨0, _⟩ => ⟨S20480, .i32⟩
  | .hbm, ⟨1, _⟩ => ⟨S20480x8, .f32⟩
  | .hbm, ⟨2, _⟩ => ⟨S1000, .i32⟩
  | .hbm, ⟨3, _⟩ => ⟨S1000, .i32⟩
  | .hbm, ⟨4, _⟩ => ⟨S1000, .i32⟩
  | .hbm, ⟨5, _⟩ => ⟨S_, .i32⟩
  | .hbm, ⟨6, _⟩ => ⟨S1000, .i32⟩
  | .hbm, ⟨7, _⟩ => ⟨S1000, .i1⟩
  | .hbm, ⟨8, _⟩ => ⟨S_, .i32⟩
  | .hbm, ⟨9, _⟩ => ⟨S1000, .i32⟩
  | .hbm, ⟨10, _⟩ => ⟨S1000, .i32⟩
  | .hbm, ⟨11, _⟩ => ⟨S1000, .i32⟩
  | .hbm, ⟨12, _⟩ => ⟨S1000x1, .i32⟩
  | .hbm, ⟨13, _⟩ => ⟨S1, .i32⟩
  | .hbm, ⟨14, _⟩ => ⟨S_, .i32⟩
  | .hbm, ⟨15, _⟩ => ⟨S1000x1, .i32⟩
  | .hbm, ⟨16, _⟩ => ⟨S1000x1, .i1⟩
  | .hbm, ⟨17, _⟩ => ⟨S1x1, .i32⟩
  | .hbm, ⟨18, _⟩ => ⟨S1000x1, .i32⟩
  | .hbm, ⟨19, _⟩ => ⟨S1000x1, .i1⟩
  | .hbm, ⟨20, _⟩ => ⟨S1000x1, .i1⟩
  | .hbm, ⟨21, _⟩ => ⟨S_, .i1⟩
  | .hbm, ⟨22, _⟩ => ⟨S1000, .i1⟩
  | .hbm, ⟨23, _⟩ => ⟨S1000x8, .f32⟩
  | .hbm, ⟨24, _⟩ => ⟨S1000x8, .i1⟩
  | .hbm, ⟨25, _⟩ => ⟨S_, .f32⟩
  | .hbm, ⟨26, _⟩ => ⟨S1000x8, .f32⟩
  | .hbm, ⟨27, _⟩ => ⟨S1000x8, .f32⟩
  | .hbm, ⟨28, _⟩ => ⟨S_, .i32⟩
  | .hbm, ⟨29, _⟩ => ⟨S_, .f32⟩
  | .hbm, ⟨30, _⟩ => ⟨S1024x8, .f32⟩
  | _, _ => ⟨S20480, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_v0 : Ref sig .tc := ⟨.hbm, 4, rfl⟩
abbrev main_call1_c : Ref sig .tc := ⟨.hbm, 5, rfl⟩
abbrev main_call1_v0 : Ref sig .tc := ⟨.hbm, 6, rfl⟩
abbrev main_call1_v1 : Ref sig .tc := ⟨.hbm, 7, rfl⟩
abbrev main_call1_c_0 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_call1_v5 : Ref sig .tc := ⟨.hbm, 12, rfl⟩
abbrev main_call1_c_1 : Ref sig .tc := ⟨.hbm, 13, rfl⟩
abbrev main_call1_c_2 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_3 : Ref sig .tc := ⟨.hbm, 21, rfl⟩
abbrev main_call1_v12 : Ref sig .tc := ⟨.hbm, 22, rfl⟩
abbrev main_call1_v13 : Ref sig .tc := ⟨.hbm, 23, rfl⟩
abbrev main_call1_v14 : Ref sig .tc := ⟨.hbm, 24, rfl⟩
abbrev main_call1_cst : Ref sig .tc := ⟨.hbm, 25, rfl⟩
abbrev main_call1_v15 : Ref sig .tc := ⟨.hbm, 26, rfl⟩
abbrev main_v1 : Ref sig .tc := ⟨.hbm, 27, rfl⟩
abbrev main_c : Ref sig .tc := ⟨.hbm, 28, rfl⟩
abbrev main_call2_v0 : Ref sig .tc := ⟨.hbm, 29, rfl⟩
abbrev main_v2 : Ref sig .tc := ⟨.hbm, 30, rfl⟩

abbrev nD : Nat := 1
abbrev τ : Topo := Topo.v7x

variable {F : FTy → Type} [FloatOps F]
-- ==== Proof.Words.lean ====
/-
  What the value proof says of single numbers: the constants of the kernel as extended reals, the row and lane numbers,
  and comparisons combined by the one-bit operations.
-/
module

public import proofs.«01_k».proof.Proof.Gen.KernelIdeal
public import Idealize.ShloMosaic.Lib.Pointwise

@[expose] public section

noncomputable section

namespace Cert.Proof

open Idealize.ShloMosaic

/-- A bit that is a comparison selects by the comparison. -/
theorem select_bool {α : Type} (p : Bool) (a b : α) : Scalar.select (BitVec.ofBool p) a b = if p then a else b := by
  cases p <;> rfl

theorem andi_bool (p q : Bool) : IntOp.andi (BitVec.ofBool p) (BitVec.ofBool q) = BitVec.ofBool (p && q) := by
  cases p <;> cases q <;> rfl

theorem ori_bool (p q : Bool) : IntOp.ori (BitVec.ofBool p) (BitVec.ofBool q) = BitVec.ofBool (p || q) := by
  cases p <;> cases q <;> rfl

theorem bool_eq_one (p : Bool) : BitVec.ofBool p = 1#1 ↔ p = true := by cases p <;> decide

/-- The float of a small number is that number. -/
theorem sitofp_small (n : ℕ) (h : n < 2 ^ 31) :
    FloatOps.sitofp (F := Ideal) .f32 (BitVec.ofNat 32 n) = (n : EReal) := by
  show (((BitVec.ofNat 32 n).toInt : ℝ) : EReal) = _
  have e : (BitVec.ofNat 32 n).toInt = (n : ℤ) := by
    rw [BitVec.toInt_eq_toNat_of_lt] <;> simp only [BitVec.toNat_ofNat] <;> omega
  rw [e]; push_cast; rfl

theorem one_nat : ((1 : ℕ) : EReal) = 1 := by norm_num
theorem zero_nat : ((0 : ℕ) : EReal) = 0 := by norm_num

theorem nat_real (n : ℕ) : (((n : ℝ)) : EReal) = (n : EReal) := rfl

theorem nat_add (a b : ℕ) : (a : EReal) + (b : EReal) = ((a + b : ℕ) : EReal) := by push_cast; rfl
theorem nat_lt (a b : ℕ) : (a : EReal) < (b : EReal) ↔ a < b := EReal.natCast_lt_iff
theorem nat_le (a b : ℕ) : (a : EReal) ≤ (b : EReal) ↔ a ≤ b := EReal.natCast_le_iff
theorem nat_eq (a b : ℕ) : (a : EReal) = (b : EReal) ↔ a = b := EReal.natCast_eq_iff

/-- One less than a number that is not zero. -/
theorem nat_pred (a : ℕ) (h : 1 ≤ a) : (a : EReal) - 1 = ((a - 1 : ℕ) : EReal) := by
  rw [← nat_real, ← nat_real, Nat.cast_sub h]; push_cast; rfl

theorem word_1000 : Ideal.ofBits .f32 0x447A0000#32 = ((1000 : ℕ) : EReal) := by
  rw [← nat_real]; simp [Ideal.ofBits, Ideal.ieee, -EReal.coe_mul, -EReal.coe_natCast]; norm_num
theorem word_30000 : Ideal.ofBits .f32 0x46EA6000#32 = ((30000 : ℕ) : EReal) := by
  rw [← nat_real]; simp [Ideal.ofBits, Ideal.ieee, -EReal.coe_mul]; norm_num
theorem word_4096 : Ideal.ofBits .f32 0x45800000#32 = ((4096 : ℕ) : EReal) := by
  rw [← nat_real]; simp [Ideal.ofBits, Ideal.ieee, -EReal.coe_mul]; norm_num
theorem word_128 : Ideal.ofBits .f32 0x43000000#32 = ((128 : ℕ) : EReal) := by
  rw [← nat_real]; simp [Ideal.ofBits, Ideal.ieee, -EReal.coe_mul]; norm_num
theorem word_256 : Ideal.ofBits .f32 0x43800000#32 = ((256 : ℕ) : EReal) := by
  rw [← nat_real]; simp [Ideal.ofBits, Ideal.ieee, -EReal.coe_mul]; norm_num
theorem word_384 : Ideal.ofBits .f32 0x43C00000#32 = ((384 : ℕ) : EReal) := by
  rw [← nat_real]; simp [Ideal.ofBits, Ideal.ieee, -EReal.coe_mul]; norm_num
theorem word_512 : Ideal.ofBits .f32 0x44000000#32 = ((512 : ℕ) : EReal) := by
  rw [← nat_real]; simp [Ideal.ofBits, Ideal.ieee, -EReal.coe_mul]; norm_num
theorem word_640 : Ideal.ofBits .f32 0x44200000#32 = ((640 : ℕ) : EReal) := by
  rw [← nat_real]; simp [Ideal.ofBits, Ideal.ieee, -EReal.coe_mul]; norm_num
theorem word_768 : Ideal.ofBits .f32 0x44400000#32 = ((768 : ℕ) : EReal) := by
  rw [← nat_real]; simp [Ideal.ofBits, Ideal.ieee, -EReal.coe_mul]; norm_num
theorem word_896 : Ideal.ofBits .f32 0x44600000#32 = ((896 : ℕ) : EReal) := by
  rw [← nat_real]; simp [Ideal.ofBits, Ideal.ieee, -EReal.coe_mul]; norm_num
theorem word_zero : Ideal.ofBits .f32 0x00000000#32 = ((0 : ℕ) : EReal) := by
  rw [Ideal.ofBits_zero_f32, zero_nat]
theorem word_neg_one : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]; norm_num
theorem word_half : Ideal.ofBits .f32 0x3F000000#32 = ((1 / 2 : ℝ) : EReal) := by
  simp [Ideal.ofBits, Ideal.ieee, -EReal.coe_mul]; norm_num
theorem word_neg_inf : Ideal.ofBits .f32 0xFF800000#32 = ⊥ := by
  simp [Ideal.ofBits, Ideal.ieee]

/-- A count is more than one half when it is not zero. -/
theorem half_lt_nat (n : ℕ) : ((1 / 2 : ℝ) : EReal) < (n : EReal) ↔ 0 < n := by
  rw [← nat_real, EReal.coe_lt_coe_iff]
  constructor
  · intro h
    rcases Nat.eq_zero_or_pos n with rfl | h'
    · norm_num at h
    · exact h'
  · intro h
    have : (1 : ℝ) ≤ n := by exact_mod_cast h
    linarith

theorem half_lt_ite (p : Prop) [Decidable p] : ((1 / 2 : ℝ) : EReal) < (if p then 1 else 0) ↔ p := by
  have := half_lt_nat (if p then 1 else 0)
  by_cases h : p <;> simp [h] at this ⊢ <;> exact this

theorem half_lt_one : (((1 / 2 : ℝ) : EReal) < 1) ↔ True := by
  have := half_lt_nat 1
  rw [one_nat] at this; simp only [this]; norm_num

theorem half_lt_zero : (((1 / 2 : ℝ) : EReal) < 0) ↔ False := by
  have := half_lt_nat 0
  rw [zero_nat] at this; simp only [this]; norm_num

/-- Indicators of equivalent statements are equal. -/
theorem ite_iff {p q : Prop} [Decidable p] [Decidable q] (h : p ↔ q) : (if p then (1 : EReal) else 0) = if q then 1 else 0 := by
  by_cases hp : p
  · rw [if_pos hp, if_pos (h.mp hp)]
  · rw [if_neg hp, if_neg fun hq => hp (h.mpr hq)]

/-- A sum of indicators is how many there are. -/
theorem sum_count {ι : Type} (s : Finset ι) (p : ι → Prop) [DecidablePred p] :
    (∑ k ∈ s, if p k then (1 : EReal) else 0) = ((s.filter p).card : EReal) := by
  rw [Finset.sum_boole]

/-- A sum over 128 rows from `o` on, as a sum over an interval. -/
theorem sum_rows (f : ℕ → EReal) (o : ℕ) : (∑ x : Fin 128, f (o + x)) = ∑ k ∈ Finset.Ico o (o + 128), f k := by
  rw [Fin.sum_univ_eq_sum_range (fun x => f (o + x)), Finset.sum_Ico_eq_sum_range]
  simp

/-- Eight blocks of 128 rows are the 1024 rows. -/
theorem sum_blocks (f : ℕ → EReal) :
    (((((((0 + ∑ k ∈ Finset.Ico 0 (0 + 128), f k) + ∑ k ∈ Finset.Ico 128 (128 + 128), f k)
      + ∑ k ∈ Finset.Ico 256 (256 + 128), f k) + ∑ k ∈ Finset.Ico 384 (384 + 128), f k)
      + ∑ k ∈ Finset.Ico 512 (512 + 128), f k) + ∑ k ∈ Finset.Ico 640 (640 + 128), f k)
      + ∑ k ∈ Finset.Ico 768 (768 + 128), f k) + ∑ k ∈ Finset.Ico 896 (896 + 128), f k
      = ∑ k ∈ Finset.range 1024, f k := by
  rw [zero_add, Finset.range_eq_Ico]
  repeat rw [Finset.sum_Ico_consecutive _ (by norm_num) (by norm_num)]

end Cert.Proof
-- ==== Proof.Spec.lean ====
/-
  The mathematics of the kernel on plain numbers: candidates as a table `X : ℕ → ℕ → EReal` of rows and columns.
-/
module

public import Idealize.ShloMosaic.Lib.Pointwise

@[expose] public section

noncomputable section

namespace Cert.Proof

open scoped Classical

/-- The score a row is sorted by: column 6 of a real row, `-1` of a padding row. -/
def scoreOf (X : ℕ → ℕ → EReal) (i : ℕ) : EReal := if i < 1000 then X i 6 else -1

/-- The number that settles equal scores: column 7 of a real row, `30000 + i` of a padding row. -/
def orderOf (X : ℕ → ℕ → EReal) (i : ℕ) : EReal := if i < 1000 then X i 7 else ((30000 + i : ℕ) : EReal)

/-- Row `k` comes before row `i`. -/
def before (X : ℕ → ℕ → EReal) (k i : ℕ) : Prop :=
  scoreOf X i < scoreOf X k ∨ (scoreOf X k = scoreOf X i ∧ orderOf X k < orderOf X i)

/-- The position of row `i` in the sorted order. -/
def rank (X : ℕ → ℕ → EReal) (i : ℕ) : ℕ := ((Finset.range 1024).filter (fun k => before X k i)).card

/-- The sorted table: the row whose position is `p`, as a sum over the rows. -/
def sorted (X : ℕ → ℕ → EReal) (p d : ℕ) : EReal :=
  ∑ i ∈ Finset.range 1024, (if p = rank X i then 1 else 0) * X i d

/-- The sorted table, its box coordinates clipped to the scene. -/
def clipped (X : ℕ → ℕ → EReal) (lo hi : EReal) (p d : ℕ) : EReal :=
  if d < 6 then min hi (max lo (sorted X p d)) else sorted X p d

/-- What one dimension adds to the common volume of boxes `p` and `q`. -/
def overlap (C : ℕ → ℕ → EReal) (z : EReal) (p q d : ℕ) : EReal :=
  max z (min (C p (d + 3)) (C q (d + 3)) - max (C p d) (C q d))

/-- The common volume of boxes `p` and `q`. -/
def common (C : ℕ → ℕ → EReal) (z : EReal) (p q : ℕ) : EReal :=
  overlap C z p q 0 * overlap C z p q 1 * overlap C z p q 2

/-- The volume of box `p`. -/
def volume (C : ℕ → ℕ → EReal) (p : ℕ) : EReal := (C p 3 - C p 0) * (C p 4 - C p 1) * (C p 5 - C p 2)

/-- Common volume over joint volume, the latter at least `e`. -/
def ratio (C : ℕ → ℕ → EReal) (z e : EReal) (p q : ℕ) : EReal :=
  Idealize.ShloMosaic.Ideal.div (common C z p q) (max (volume C p + volume C q - common C z p q) e)

/-- The greedy suppression after the first `t` boxes have had their turn: `ov t j` says box `t` covers box `j`. -/
def greedy (ov : ℕ → ℕ → Prop) (start : ℕ → Prop) : ℕ → ℕ → Prop
  | 0, j => start j
  | t + 1, j => greedy ov start t j ∧ ¬ (ov t j ∧ t < j ∧ greedy ov start t t)

/-- The final position of row `q`: the kept rows in order, then the others in order. -/
def place (K : ℕ → Prop) (q : ℕ) : ℕ :=
  if q < 1000 then
    (if K q then ((Finset.range q).filter K).card
     else ((Finset.range 1024).filter K).card + ((Finset.range q).filter (fun t => ¬ K t)).card)
  else 4096

end Cert.Proof
-- ==== Proof.Rank.lean ====
/-
  The sorting position of each candidate, one block of 128 rows at a time.
-/
module

public import proofs.«01_k».proof.Proof.Gen.KernelIdeal
public import proofs.«01_k».proof.Proof.Words
public import proofs.«01_k».proof.Proof.Spec

@[expose] public section

set_option maxRecDepth 16384

noncomputable section

namespace Cert.Proof

open Cert.KernelIdeal Cert.KernelIdeal.Gen
open Idealize.ShloMosaic

theorem col_slices (o d : ℕ) (ho : o + 128 ≤ 1024) (hd : d + 1 ≤ 8) : S1024x8.Slices ![o, d] S128x1 :=
  ⟨rfl, fun a => by
    fin_cases a
    · exact ho
    · exact hd⟩

theorem rows_slices (o : ℕ) (ho : o + 128 ≤ 1024) : S1024x8.Slices ![o, 0] S128x8 :=
  ⟨rfl, fun a => by
    fin_cases a
    · exact ho
    · exact le_refl 8⟩

theorem lanes_slices (o : ℕ) (ho : o + 128 ≤ 1024) : S8x1024.Slices ![0, o] S8x128 :=
  ⟨rfl, fun a => by
    fin_cases a
    · exact le_refl 8
    · exact ho⟩

theorem one_slices (o : ℕ) (ho : o + 128 ≤ 1024) : S1024x1.Slices ![o, 0] S128x1 :=
  ⟨rfl, fun a => by
    fin_cases a
    · exact ho
    · exact le_refl 1⟩

theorem cols_concat :
    Shape.Concatenates [S128x1, S128x1, S128x1, S128x1, S128x1, S128x1, S128x1, S128x1] S1024x1 0 := by decide

theorem lanes_concat :
    Shape.Concatenates [S1x128, S1x128, S1x128, S1x128, S1x128, S1x128, S1x128, S1x128] S1x1024 1 := by decide

section Ops
variable {F : FTy → Type} [FloatOps F]

/-- The row numbers `o … o + 127` as floats, `w` being the word of `o`. -/
def rowNo (w : BitVec 32) : FVec F S128x1 .f32 :=
  addf (sitofp .f32 (iota .tc S128x1 32 [0] (by decide))) (broadcast S128x1 (Scalar.ofBits .f32 w))

/-- Of the rows `o … o + 127`: how many candidates go before each. -/
def rankBlk (o : ℕ) (w : BitVec 32) (ho : o + 128 ≤ 1024) (x0 : FVec F S1024x8 .f32) (s i : FVec F S1x1024 .f32) :
    FVec F S128x1 .f32 :=
  let lo := cmpf .olt (rowNo (F := F) w) (broadcast S128x1 (Scalar.ofBits .f32 0x447A0000#32))
  let sc := select lo (extractStridedSlice S128x1 ![o, 6] x0 (col_slices o 6 ho (by decide)))
    (broadcast S128x1 (Scalar.ofBits .f32 0xBF800000#32))
  let ic := select lo (extractStridedSlice S128x1 ![o, 7] x0 (col_slices o 7 ho (by decide)))
    (addf (broadcast S128x1 (Scalar.ofBits .f32 0x46EA6000#32)) (rowNo w))
  let gt := cmpf .ogt (broadcastTo S128x1024 s (by decide)) (broadcastTo S128x1024 sc (by decide))
  let eq := cmpf .oeq (broadcastTo S128x1024 s (by decide)) (broadcastTo S128x1024 sc (by decide))
  let lt := cmpf .olt (broadcastTo S128x1024 i (by decide)) (broadcastTo S128x1024 ic (by decide))
  shapeCast S128x1 (multiReduction .add [1] S128
    (select (ori gt (andi eq lt)) (broadcast S128x1024 (Scalar.ofBits .f32 0x3F800000#32))
      (broadcast S128x1024 (Scalar.ofBits .f32 0x00000000#32)))
    0x00000000#32 (by decide) (.inl rfl) rfl) (by decide)

/-- Eight blocks of 128 rows, one below the other. -/
def col8 (p0 p1 p2 p3 p4 p5 p6 p7 : FVec F S128x1 .f32) : FVec F S1024x1 .f32 :=
  concatenate S1024x1 0 [⟨S128x1, p0⟩, ⟨S128x1, p1⟩, ⟨S128x1, p2⟩, ⟨S128x1, p3⟩, ⟨S128x1, p4⟩, ⟨S128x1, p5⟩, ⟨S128x1, p6⟩,
    ⟨S128x1, p7⟩] cols_concat

/-- Eight blocks of 128 lanes, side by side. -/
def row8 (p0 p1 p2 p3 p4 p5 p6 p7 : FVec F S1x128 .f32) : FVec F S1x1024 .f32 :=
  concatenate S1x1024 1 [⟨S1x128, p0⟩, ⟨S1x128, p1⟩, ⟨S1x128, p2⟩, ⟨S1x128, p3⟩, ⟨S1x128, p4⟩, ⟨S1x128, p5⟩, ⟨S1x128, p6⟩,
    ⟨S1x128, p7⟩] lanes_concat

/-- The lane numbers of a block of rows. -/
def laneNo : FVec F S128x1024 .f32 := sitofp .f32 (iota .tc S128x1024 32 [1] (by decide))

/-- The row of the table each of 128 numbers names, as indicators. -/
def oneHot (v : FVec F S128x1 .f32) : FVec F S128x1024 .f32 :=
  select (cmpf .oeq laneNo (broadcastTo S128x1024 v (by decide)))
    (broadcast S128x1024 (Scalar.ofBits .f32 0x3F800000#32)) (broadcast S128x1024 (Scalar.ofBits .f32 0x00000000#32))

/-- Of the positions of all rows, those of the rows `o … o + 127`, as indicators. -/
def permBlk (o : ℕ) (ho : o + 128 ≤ 1024) (rk : FVec F S1024x1 .f32) : FVec F S128x1024 .f32 :=
  oneHot (extractStridedSlice S128x1 ![o, 0] rk (one_slices o ho))

/-- 128 rows put in their places and added to what is there. -/
def addRows (acc : FVec F S1024x8 .f32) (perm : FVec F S128x1024 .f32) (x : FVec F S128x8 .f32) : FVec F S1024x8 .f32 :=
  addf acc (matmul dot_S128x1024_S128x8_S1024x8_0_0_1_1_n_n (some .fp32) perm x (constant S1024x8 .f32 0x00000000#32))

/-- 128 columns put in their places and added to what is there. -/
def addCols (acc : FVec F S8x1024 .f32) (x : FVec F S8x128 .f32) (perm : FVec F S128x1024 .f32) : FVec F S8x1024 .f32 :=
  addf acc (matmul dot_S8x128_S128x1024_S8x1024_1_0_0_1_n_n (some .fp32) x perm (constant S8x1024 .f32 0x00000000#32))

/-- The rows `o … o + 127` of the table. -/
def rowsOf (o : ℕ) (ho : o + 128 ≤ 1024) (x : FVec F S1024x8 .f32) : FVec F S128x8 .f32 :=
  extractStridedSlice S128x8 ![o, 0] x (rows_slices o ho)

/-- The columns `o … o + 127` of the transposed table. -/
def colsOf (o : ℕ) (ho : o + 128 ≤ 1024) (x : FVec F S8x1024 .f32) : FVec F S8x128 .f32 :=
  extractStridedSlice S8x128 ![0, o] x (lanes_slices o ho)

/-- The lane numbers of one row. -/
def laneRow : FVec F S1x1024 .f32 := sitofp .f32 (iota .tc S1x1024 32 [1] (by decide))

/-- The scores the lanes are sorted by. -/
def scoreRow (xt : FVec F S8x1024 .f32) : FVec F S1x1024 .f32 :=
  select (cmpf .olt (laneRow (F := F)) (broadcast S1x1024 (Scalar.ofBits .f32 0x447A0000#32)))
    (extractStridedSlice S1x1024 ![6, 0] xt (by decide)) (broadcast S1x1024 (Scalar.ofBits .f32 0xBF800000#32))

/-- The numbers that settle equal scores. -/
def orderRow (xt : FVec F S8x1024 .f32) : FVec F S1x1024 .f32 :=
  select (cmpf .olt (laneRow (F := F)) (broadcast S1x1024 (Scalar.ofBits .f32 0x447A0000#32)))
    (extractStridedSlice S1x1024 ![7, 0] xt (by decide))
    (addf (broadcast S1x1024 (Scalar.ofBits .f32 0x46EA6000#32)) (laneRow (F := F)))

/-- The positions of all rows. -/
def rankCol (x0 : FVec F S1024x8 .f32) (xt : FVec F S8x1024 .f32) : FVec F S1024x1 .f32 :=
  col8 (rankBlk 0 0x00000000#32 (by decide) x0 (scoreRow xt) (orderRow xt))
    (rankBlk 128 0x43000000#32 (by decide) x0 (scoreRow xt) (orderRow xt))
    (rankBlk 256 0x43800000#32 (by decide) x0 (scoreRow xt) (orderRow xt))
    (rankBlk 384 0x43C00000#32 (by decide) x0 (scoreRow xt) (orderRow xt))
    (rankBlk 512 0x44000000#32 (by decide) x0 (scoreRow xt) (orderRow xt))
    (rankBlk 640 0x44200000#32 (by decide) x0 (scoreRow xt) (orderRow xt))
    (rankBlk 768 0x44400000#32 (by decide) x0 (scoreRow xt) (orderRow xt))
    (rankBlk 896 0x44600000#32 (by decide) x0 (scoreRow xt) (orderRow xt))

/-- One block's share of the sorted table. -/
def addBlk (o : ℕ) (ho : o + 128 ≤ 1024) (x0 : FVec F S1024x8 .f32) (rk : FVec F S1024x1 .f32)
    (acc : FVec F S1024x8 .f32) : FVec F S1024x8 .f32 :=
  addRows acc (permBlk o ho rk) (rowsOf o ho x0)

/-- One block's share of the transposed sorted table. -/
def addBlkT (o : ℕ) (ho : o + 128 ≤ 1024) (xt : FVec F S8x1024 .f32) (rk : FVec F S1024x1 .f32)
    (acc : FVec F S8x1024 .f32) : FVec F S8x1024 .f32 :=
  addCols acc (colsOf o ho xt) (permBlk o ho rk)

/-- The table with its rows in sorted order. -/
def sortRows (x0 : FVec F S1024x8 .f32) (rk : FVec F S1024x1 .f32) : FVec F S1024x8 .f32 :=
  addBlk 896 (by decide) x0 rk (addBlk 768 (by decide) x0 rk (addBlk 640 (by decide) x0 rk
    (addBlk 512 (by decide) x0 rk (addBlk 384 (by decide) x0 rk (addBlk 256 (by decide) x0 rk
    (addBlk 128 (by decide) x0 rk (addBlk 0 (by decide) x0 rk
    (broadcast S1024x8 (Scalar.ofBits .f32 0x00000000#32)))))))))

/-- The transposed table with its columns in sorted order. -/
def sortCols (xt : FVec F S8x1024 .f32) (rk : FVec F S1024x1 .f32) : FVec F S8x1024 .f32 :=
  addBlkT 896 (by decide) xt rk (addBlkT 768 (by decide) xt rk (addBlkT 640 (by decide) xt rk
    (addBlkT 512 (by decide) xt rk (addBlkT 384 (by decide) xt rk (addBlkT 256 (by decide) xt rk
    (addBlkT 128 (by decide) xt rk (addBlkT 0 (by decide) xt rk
    (broadcast S8x1024 (Scalar.ofBits .f32 0x00000000#32)))))))))

/-- Box coordinates clipped to the scene, by columns. -/
def clipRows (x : FVec F S1024x8 .f32) : FVec F S1024x8 .f32 :=
  select (cmpi .slt (iota .tc S1024x8 32 [1] (by decide)) (broadcast S1024x8 6#32))
    (minimumf (broadcast S1024x8 (Scalar.ofBits .f32 0x43000000#32))
      (maximumf (broadcast S1024x8 (Scalar.ofBits .f32 0x00000000#32)) x)) x

/-- Box coordinates clipped to the scene, by rows. -/
def clipCols (x : FVec F S8x1024 .f32) : FVec F S8x1024 .f32 :=
  select (cmpi .slt (iota .tc S8x1024 32 [0] (by decide)) (broadcast S8x1024 6#32))
    (minimumf (broadcast S8x1024 (Scalar.ofBits .f32 0x43000000#32))
      (maximumf (broadcast S8x1024 (Scalar.ofBits .f32 0x00000000#32)) x)) x

end Ops

open scoped Classical

theorem rowNo_apply (o : ℕ) (w : BitVec 32) (hw : Ideal.ofBits .f32 w = (o : EReal)) (r : Fin 128) (l : Fin 1) :
    rowNo (F := Ideal) w (ix2 r l) = ((o + r : ℕ) : EReal) := by
  pointwise [rowNo]
  rw [sitofp_small _ (by omega), hw, nat_add, Nat.add_comm]

/-- A block of positions counts the rows that come before each of its rows. -/
theorem rankBlk_apply (X : ℕ → ℕ → EReal) (o : ℕ) (w : BitVec 32) (ho : o + 128 ≤ 1024)
    (hw : Ideal.ofBits .f32 w = (o : EReal)) (x0 : FVec Ideal S1024x8 .f32) (s i : FVec Ideal S1x1024 .f32)
    (hx : ∀ (i : Fin 1024) (d : Fin 8), x0 (ix2 i d) = X i d) (hs : ∀ k : Fin 1024, s (ix2 0 k) = scoreOf X k)
    (hi : ∀ k : Fin 1024, i (ix2 0 k) = orderOf X k) (r : Fin 128) (l : Fin 1) :
    rankBlk o w ho x0 s i (ix2 r l) = (rank X (o + r) : EReal) := by
  pointwise [rankBlk, rowNo_apply o w hw]
  simp only [word_1000, word_30000, word_neg_one, nat_lt, nat_add, hx, hs, hi, select_bool, ori_bool, andi_bool]
  unfold rank
  rw [← sum_count, Finset.sum_range]
  refine Finset.sum_congr rfl fun k _ => ?_
  refine if_congr ?_ rfl rfl
  simp only [Bool.or_eq_true, Bool.and_eq_true, decide_eq_true_eq]
  unfold before
  simp only [scoreOf, orderOf]
  rfl

theorem col8_apply (f : ℕ → EReal) (p0 p1 p2 p3 p4 p5 p6 p7 : FVec Ideal S128x1 .f32)
    (h0 : ∀ (r : Fin 128) (l : Fin 1), p0 (ix2 r l) = f (0 + r)) (h1 : ∀ (r : Fin 128) (l : Fin 1), p1 (ix2 r l) = f (128 + r))
    (h2 : ∀ (r : Fin 128) (l : Fin 1), p2 (ix2 r l) = f (256 + r)) (h3 : ∀ (r : Fin 128) (l : Fin 1), p3 (ix2 r l) = f (384 + r))
    (h4 : ∀ (r : Fin 128) (l : Fin 1), p4 (ix2 r l) = f (512 + r)) (h5 : ∀ (r : Fin 128) (l : Fin 1), p5 (ix2 r l) = f (640 + r))
    (h6 : ∀ (r : Fin 128) (l : Fin 1), p6 (ix2 r l) = f (768 + r)) (h7 : ∀ (r : Fin 128) (l : Fin 1), p7 (ix2 r l) = f (896 + r))
    (i : Fin 1024) (l : Fin 1) : col8 p0 p1 p2 p3 p4 p5 p6 p7 (ix2 i l) = f i := by
  pointwise [col8]
  simp only [h0, h1, h2, h3, h4, h5, h6, h7]
  split_ifs <;> (congr 1; omega)

theorem row8_apply (f : ℕ → EReal) (p0 p1 p2 p3 p4 p5 p6 p7 : FVec Ideal S1x128 .f32)
    (h0 : ∀ (l : Fin 1) (r : Fin 128), p0 (ix2 l r) = f (0 + r)) (h1 : ∀ (l : Fin 1) (r : Fin 128), p1 (ix2 l r) = f (128 + r))
    (h2 : ∀ (l : Fin 1) (r : Fin 128), p2 (ix2 l r) = f (256 + r)) (h3 : ∀ (l : Fin 1) (r : Fin 128), p3 (ix2 l r) = f (384 + r))
    (h4 : ∀ (l : Fin 1) (r : Fin 128), p4 (ix2 l r) = f (512 + r)) (h5 : ∀ (l : Fin 1) (r : Fin 128), p5 (ix2 l r) = f (640 + r))
    (h6 : ∀ (l : Fin 1) (r : Fin 128), p6 (ix2 l r) = f (768 + r)) (h7 : ∀ (l : Fin 1) (r : Fin 128), p7 (ix2 l r) = f (896 + r))
    (l : Fin 1) (i : Fin 1024) : row8 p0 p1 p2 p3 p4 p5 p6 p7 (ix2 l i) = f i := by
  pointwise [row8]
  simp only [h0, h1, h2, h3, h4, h5, h6, h7]
  split_ifs <;> (congr 1; omega)

theorem scoreRow_apply (X : ℕ → ℕ → EReal) (xt : FVec Ideal S8x1024 .f32)
    (hx : ∀ (d : Fin 8) (i : Fin 1024), xt (ix2 d i) = X i d) (l : Fin 1) (k : Fin 1024) :
    scoreRow xt (ix2 l k) = scoreOf X k := by
  pointwise [scoreRow, laneRow]
  rw [sitofp_small _ (by omega)]
  simp only [word_1000, word_neg_one, nat_lt, hx]
  rfl

theorem orderRow_apply (X : ℕ → ℕ → EReal) (xt : FVec Ideal S8x1024 .f32)
    (hx : ∀ (d : Fin 8) (i : Fin 1024), xt (ix2 d i) = X i d) (l : Fin 1) (k : Fin 1024) :
    orderRow xt (ix2 l k) = orderOf X k := by
  pointwise [orderRow, laneRow]
  rw [sitofp_small _ (by omega)]
  simp only [word_1000, word_30000, nat_lt, nat_add, hx]
  rfl

/-- The column of positions holds each row's position. -/
theorem rankCol_apply (X : ℕ → ℕ → EReal) (x0 : FVec Ideal S1024x8 .f32) (xt : FVec Ideal S8x1024 .f32)
    (hx : ∀ (i : Fin 1024) (d : Fin 8), x0 (ix2 i d) = X i d) (ht : ∀ (d : Fin 8) (i : Fin 1024), xt (ix2 d i) = X i d)
    (i : Fin 1024) (l : Fin 1) : rankCol x0 xt (ix2 i l) = (rank X i : EReal) := by
  have key := fun o w ho hw => rankBlk_apply X o w ho hw x0 (scoreRow xt) (orderRow xt) hx
    (scoreRow_apply X xt ht 0) (orderRow_apply X xt ht 0)
  exact col8_apply (fun n => (rank X n : EReal)) _ _ _ _ _ _ _ _ (key 0 _ _ word_zero) (key 128 _ _ word_128)
    (key 256 _ _ word_256) (key 384 _ _ word_384) (key 512 _ _ word_512) (key 640 _ _ word_640) (key 768 _ _ word_768)
    (key 896 _ _ word_896) i l

theorem oneHot_apply (v : FVec Ideal S128x1 .f32) (n : ℕ) (r : Fin 128) (p : Fin 1024) (h : v (ix2 r 0) = (n : EReal)) :
    oneHot v (ix2 r p) = if (p : ℕ) = n then 1 else 0 := by
  pointwise [oneHot, laneNo]
  rw [sitofp_small _ (by omega), h]
  simp only [nat_eq]

theorem permBlk_apply (X : ℕ → ℕ → EReal) (o : ℕ) (ho : o + 128 ≤ 1024) (rk : FVec Ideal S1024x1 .f32)
    (hr : ∀ (i : Fin 1024) (l : Fin 1), rk (ix2 i l) = (rank X i : EReal)) (r : Fin 128) (p : Fin 1024) :
    permBlk o ho rk (ix2 r p) = if (p : ℕ) = rank X (o + r) then 1 else 0 := by
  refine oneHot_apply _ _ r p ?_
  pointwise
  rw [hr]

theorem addBlk_apply (X : ℕ → ℕ → EReal) (o : ℕ) (ho : o + 128 ≤ 1024) (x0 : FVec Ideal S1024x8 .f32)
    (rk : FVec Ideal S1024x1 .f32) (hx : ∀ (i : Fin 1024) (d : Fin 8), x0 (ix2 i d) = X i d)
    (hr : ∀ (i : Fin 1024) (l : Fin 1), rk (ix2 i l) = (rank X i : EReal)) (acc : FVec Ideal S1024x8 .f32)
    (p : Fin 1024) (d : Fin 8) :
    addBlk o ho x0 rk acc (ix2 p d)
      = acc (ix2 p d) + ∑ k ∈ Finset.Ico o (o + 128), (if (p : ℕ) = rank X k then 1 else 0) * X k d := by
  rw [← sum_rows (fun k => (if (p : ℕ) = rank X k then 1 else 0) * X k d)]
  pointwise [addBlk, addRows, rowsOf]
  simp only [permBlk_apply X o ho rk hr, hx]

theorem addBlkT_apply (X : ℕ → ℕ → EReal) (o : ℕ) (ho : o + 128 ≤ 1024) (xt : FVec Ideal S8x1024 .f32)
    (rk : FVec Ideal S1024x1 .f32) (hx : ∀ (d : Fin 8) (i : Fin 1024), xt (ix2 d i) = X i d)
    (hr : ∀ (i : Fin 1024) (l : Fin 1), rk (ix2 i l) = (rank X i : EReal)) (acc : FVec Ideal S8x1024 .f32)
    (p : Fin 1024) (d : Fin 8) :
    addBlkT o ho xt rk acc (ix2 d p)
      = acc (ix2 d p) + ∑ k ∈ Finset.Ico o (o + 128), (if (p : ℕ) = rank X k then 1 else 0) * X k d := by
  rw [← sum_rows (fun k => (if (p : ℕ) = rank X k then 1 else 0) * X k d)]
  pointwise [addBlkT, addCols, colsOf]
  simp only [permBlk_apply X o ho rk hr, hx, mul_comm]

theorem sortRows_apply (X : ℕ → ℕ → EReal) (x0 : FVec Ideal S1024x8 .f32)
    (rk : FVec Ideal S1024x1 .f32) (hx : ∀ (i : Fin 1024) (d : Fin 8), x0 (ix2 i d) = X i d)
    (hr : ∀ (i : Fin 1024) (l : Fin 1), rk (ix2 i l) = (rank X i : EReal)) (p : Fin 1024) (d : Fin 8) :
    sortRows x0 rk (ix2 p d) = sorted X p d := by
  unfold sortRows
  simp only [addBlk_apply X _ _ x0 rk hx hr]
  have z : broadcast S1024x8 (Scalar.ofBits (F := Ideal) .f32 0x00000000#32) (ix2 p d) = (0 : EReal) := by pointwise
  rw [z]
  exact sum_blocks _

theorem sortCols_apply (X : ℕ → ℕ → EReal) (xt : FVec Ideal S8x1024 .f32)
    (rk : FVec Ideal S1024x1 .f32) (hx : ∀ (d : Fin 8) (i : Fin 1024), xt (ix2 d i) = X i d)
    (hr : ∀ (i : Fin 1024) (l : Fin 1), rk (ix2 i l) = (rank X i : EReal)) (p : Fin 1024) (d : Fin 8) :
    sortCols xt rk (ix2 d p) = sorted X p d := by
  unfold sortCols
  simp only [addBlkT_apply X _ _ xt rk hx hr]
  have z : broadcast S8x1024 (Scalar.ofBits (F := Ideal) .f32 0x00000000#32) (ix2 d p) = (0 : EReal) := by pointwise
  rw [z]
  exact sum_blocks _

theorem six_word (d : Fin 8) : IntOp.cmpi .slt (BitVec.ofNat 32 d) 6#32 = BitVec.ofBool (decide ((d : ℕ) < 6)) := by
  revert d; decide

/-- The kernel's two bounds of the scene. -/
abbrev sceneLo : EReal := Ideal.ofBits .f32 0x00000000#32
abbrev sceneHi : EReal := Ideal.ofBits .f32 0x43000000#32

theorem clipRows_apply (X : ℕ → ℕ → EReal) (x : FVec Ideal S1024x8 .f32)
    (hx : ∀ (p : Fin 1024) (d : Fin 8), x (ix2 p d) = sorted X p d) (p : Fin 1024) (d : Fin 8) :
    clipRows x (ix2 p d) = clipped X sceneLo sceneHi p d := by
  pointwise [clipRows]
  simp only [hx, six_word, bool_eq_one, select_bool, decide_eq_true_eq]
  simp only [clipped, sceneLo, Ideal.ofBits_zero_f32]

theorem clipCols_apply (X : ℕ → ℕ → EReal) (x : FVec Ideal S8x1024 .f32)
    (hx : ∀ (p : Fin 1024) (d : Fin 8), x (ix2 d p) = sorted X p d) (p : Fin 1024) (d : Fin 8) :
    clipCols x (ix2 d p) = clipped X sceneLo sceneHi p d := by
  pointwise [clipCols]
  simp only [hx, six_word, bool_eq_one, select_bool, decide_eq_true_eq]
  simp only [clipped, sceneLo, Ideal.ofBits_zero_f32]

end Cert.Proof
-- ==== Proof.Keep.lean ====
/-
  The greedy suppression: within a block of 128 boxes one after another, then by the whole block on the later boxes.
-/
module

public import proofs.«01_k».proof.Proof.Rank

@[expose] public section

set_option maxRecDepth 16384

noncomputable section

namespace Cert.Proof

open Cert.KernelIdeal Cert.KernelIdeal.Gen
open Idealize.ShloMosaic

section Ops
variable {F : FTy → Type} [FloatOps F]

def lane128 : FVec F S1x128 .f32 := sitofp .f32 (iota .tc S1x128 32 [1] (by decide))

/-- Which ratios of a tile are above the bound. -/
def coverTile (x : FVec F S128x128 .f32) : FVec F S128x128 .f32 :=
  select (cmpf .ogt x (broadcast S128x128 (Scalar.ofBits .f32 0x3F333333#32)))
    (broadcast S128x128 (Scalar.ofBits .f32 0x3F800000#32)) (broadcast S128x128 (Scalar.ofBits .f32 0x00000000#32))

/-- Which ratios of a slab are above the bound. -/
def coverSlab (x : FVec F S128x1024 .f32) : FVec F S128x1024 .f32 :=
  select (cmpf .ogt x (broadcast S128x1024 (Scalar.ofBits .f32 0x3F333333#32)))
    (broadcast S128x1024 (Scalar.ofBits .f32 0x3F800000#32)) (broadcast S128x1024 (Scalar.ofBits .f32 0x00000000#32))

/-- One box of a block has its turn. -/
def turn (tile : FVec F S128x128 .f32) (k : Fin 128) (kb : FVec F S1x128 .f32) : FVec F S1x128 .f32 :=
  let i : FVec F S1x128 .f32 := broadcast S1x128 (Scalar.sitofp .f32 (Scf.iv 0#32 1#32 k))
  let row := matmul dot_S1x128_S128x128_S1x128_1_0_0_1_n_n none
    (select (cmpf .oeq (lane128 (F := F)) i) kb (broadcast S1x128 (Scalar.ofBits .f32 0x00000000#32))) tile
    (constant S1x128 .f32 0x00000000#32)
  select (andi (cmpf .ogt row (broadcast S1x128 (Scalar.ofBits .f32 0x3F000000#32))) (cmpf .ogt (lane128 (F := F)) i))
    (broadcast S1x128 (Scalar.ofBits .f32 0x00000000#32)) kb

/-- All boxes of a block have their turn. -/
def turns (tile : FVec F S128x128 .f32) (kb : FVec F S1x128 .f32) : FVec F S1x128 .f32 := Scf.fold (turn tile) kb

/-- Which boxes start as kept: those of positive score. -/
def startRow (ct : FVec F S8x1024 .f32) : FVec F S1x1024 .f32 :=
  select (cmpf .ogt (extractStridedSlice S1x1024 ![6, 0] ct (by decide)) (broadcast S1x1024 (Scalar.ofBits .f32 0x00000000#32)))
    (broadcast S1x1024 (Scalar.ofBits .f32 0x3F800000#32)) (broadcast S1x1024 (Scalar.ofBits .f32 0x00000000#32))

/-- The block's lanes. -/
def part (o : ℕ) (h : S1x1024.Slices ![0, o] S1x128) (keep : FVec F S1x1024 .f32) : FVec F S1x128 .f32 :=
  extractStridedSlice S1x128 ![0, o] keep h

/-- The first block put back. -/
def putFirst (keep : FVec F S1x1024 .f32) (kb : FVec F S1x128 .f32) : FVec F S1x1024 .f32 :=
  concatenate S1x1024 1 [⟨S1x128, kb⟩, ⟨S1x896, extractStridedSlice S1x896 ![0, 128] keep (by decide)⟩]
    concatenates_S1x128_S1x896_S1x1024_d1

/-- A block in the middle put back. -/
def putMid (o n : ℕ) (hn : o + 128 + n = 1024) (h1 : S1x1024.Slices ![0, 0] ⟨2, ![1, o]⟩)
    (h2 : S1x1024.Slices ![0, o + 128] ⟨2, ![1, n]⟩)
    (h : Shape.Concatenates [⟨2, ![1, o]⟩, S1x128, ⟨2, ![1, n]⟩] S1x1024 1)
    (keep : FVec F S1x1024 .f32) (kb : FVec F S1x128 .f32) : FVec F S1x1024 .f32 :=
  concatenate S1x1024 1 [⟨⟨2, ![1, o]⟩, extractStridedSlice ⟨2, ![1, o]⟩ ![0, 0] keep h1⟩, ⟨S1x128, kb⟩,
    ⟨⟨2, ![1, n]⟩, extractStridedSlice ⟨2, ![1, n]⟩ ![0, o + 128] keep h2⟩] h

/-- The last block put back. -/
def putLast (keep : FVec F S1x1024 .f32) (kb : FVec F S1x128 .f32) : FVec F S1x1024 .f32 :=
  concatenate S1x1024 1 [⟨S1x896, extractStridedSlice S1x896 ![0, 0] keep (by decide)⟩, ⟨S1x128, kb⟩]
    concatenates_S1x896_S1x128_S1x1024_d1

/-- What a block leaves of the lanes from the one of number `w` on. -/
def suppress (w : BitVec 32) (kb : FVec F S1x128 .f32) (slab : FVec F S128x1024 .f32) (keep : FVec F S1x1024 .f32) :
    FVec F S1x1024 .f32 :=
  select (andi (cmpf .ogt (matmul dot_S1x128_S128x1024_S1x1024_1_0_0_1_n_n none kb slab (constant S1x1024 .f32 0x00000000#32))
      (broadcast S1x1024 (Scalar.ofBits .f32 0x3F000000#32)))
    (cmpf .oge (laneRow (F := F)) (broadcast S1x1024 (Scalar.ofBits .f32 w))))
    (broadcast S1x1024 (Scalar.ofBits .f32 0x00000000#32)) keep

/-- The first block has its turn. -/
def firstStep (t : FVec F S128x128 .f32) (sl : FVec F S128x1024 .f32) (keep : FVec F S1x1024 .f32) : FVec F S1x1024 .f32 :=
  suppress 0x43000000#32 (turns (coverTile t) (part 0 (by decide) keep)) (coverSlab sl)
    (putFirst keep (turns (coverTile t) (part 0 (by decide) keep)))

/-- A block in the middle has its turn; `w` is the word of the number of the lane after it. -/
def midStep (o n : ℕ) (w : BitVec 32) (hn : o + 128 + n = 1024) (h1 : S1x1024.Slices ![0, 0] ⟨2, ![1, o]⟩)
    (h2 : S1x1024.Slices ![0, o + 128] ⟨2, ![1, n]⟩)
    (h : Shape.Concatenates [⟨2, ![1, o]⟩, S1x128, ⟨2, ![1, n]⟩] S1x1024 1) (hp : S1x1024.Slices ![0, o] S1x128)
    (t : FVec F S128x128 .f32) (sl : FVec F S128x1024 .f32) (keep : FVec F S1x1024 .f32) : FVec F S1x1024 .f32 :=
  suppress w (turns (coverTile t) (part o hp keep)) (coverSlab sl)
    (putMid o n hn h1 h2 h keep (turns (coverTile t) (part o hp keep)))

/-- The last block has its turn. -/
def lastStep (t : FVec F S128x128 .f32) (keep : FVec F S1x1024 .f32) : FVec F S1x1024 .f32 :=
  putLast keep (turns (coverTile t) (part 896 (by decide) keep))

/-- All eight blocks have their turn. -/
def keepRow (t0 t1 t2 t3 t4 t5 t6 t7 : FVec F S128x128 .f32) (s0 s1 s2 s3 s4 s5 s6 : FVec F S128x1024 .f32)
    (keep : FVec F S1x1024 .f32) : FVec F S1x1024 .f32 :=
  lastStep t7
    (midStep 768 128 0x44600000#32 (by decide) (by decide) (by decide) (by decide) (by decide) t6 s6
    (midStep 640 256 0x44400000#32 (by decide) (by decide) (by decide) (by decide) (by decide) t5 s5
    (midStep 512 384 0x44200000#32 (by decide) (by decide) (by decide) (by decide) (by decide) t4 s4
    (midStep 384 512 0x44000000#32 (by decide) (by decide) (by decide) (by decide) (by decide) t3 s3
    (midStep 256 640 0x43C00000#32 (by decide) (by decide) (by decide) (by decide) (by decide) t2 s2
    (midStep 128 768 0x43800000#32 (by decide) (by decide) (by decide) (by decide) (by decide) t1 s1
    (firstStep t0 s0 keep)))))))

end Ops

open scoped Classical

/-- The bound on the ratio. -/
abbrev bound : EReal := Ideal.ofBits .f32 0x3F333333#32

theorem lane128_apply (l : Fin 1) (k : Fin 128) : lane128 (F := Ideal) (ix2 l k) = ((k : ℕ) : EReal) := by
  pointwise [lane128]
  exact sitofp_small _ (by omega)

theorem laneRow_apply (l : Fin 1) (k : Fin 1024) : laneRow (F := Ideal) (ix2 l k) = ((k : ℕ) : EReal) := by
  pointwise [laneRow]
  exact sitofp_small _ (by omega)

/-- A fold has, at the end, what every trip keeps. -/
theorem fold_inv {σ : Type} {n : ℕ} (g : Fin n → σ → σ) (init : σ) (I : ℕ → σ → Prop) (h0 : I 0 init)
    (hs : ∀ (k : Fin n) (a : σ), I k a → I (k + 1) (g k a)) : I n (Scf.fold g init) := by
  rw [Scf.fold_eq]
  have key : ∀ m, m ≤ n → I m (((List.finRange n).take m).foldl (fun acc k => g k acc) init) := by
    intro m
    induction m with
    | zero => intro _; exact h0
    | succ m ih =>
      intro hm
      have hlen : m < (List.finRange n).length := by rw [List.length_finRange]; exact hm
      rw [List.take_succ_eq_append_getElem hlen, List.foldl_append]
      simp only [List.foldl_cons, List.foldl_nil, List.getElem_finRange]
      exact hs ⟨m, hm⟩ _ (ih (Nat.le_of_succ_le hm))
  have := key n (le_refl n)
  rwa [List.take_of_length_le (by rw [List.length_finRange])] at this

theorem and_ite (p q : Prop) : (if p then (1 : EReal) else 0) * (if q then 1 else 0) = if p ∧ q then 1 else 0 := by
  by_cases hp : p <;> by_cases hq : q <;> simp [hp, hq]

/-- A turn, said of which boxes are kept. -/
theorem turn_apply (ov : ℕ → ℕ → Prop) (P : ℕ → Prop) (o : ℕ) (tile : FVec Ideal S128x128 .f32) (kb : FVec Ideal S1x128 .f32)
    (ht : ∀ a b : Fin 128, tile (ix2 a b) = if ov (o + a) (o + b) then 1 else 0)
    (hk : ∀ a : Fin 128, kb (ix2 0 a) = if P (o + a) then 1 else 0) (k : Fin 128) (l : Fin 128) :
    turn tile k kb (ix2 0 l)
      = if P (o + l) ∧ ¬ (ov (o + k) (o + l) ∧ o + (k : ℕ) < o + l ∧ P (o + k)) then 1 else 0 := by
  have hw : (((Scf.iv 0#32 1#32 (k : ℕ)).toInt : ℝ) : EReal) = ((k : ℕ) : EReal) := by
    have : Scf.iv 0#32 1#32 (k : ℕ) = BitVec.ofNat 32 k := by simp [Scf.iv]
    rw [this]; exact sitofp_small _ (by omega)
  pointwise [turn, lane128_apply]
  simp only [hw, nat_eq, nat_lt, ← Fin.ext_iff, ite_mul, zero_mul, Finset.sum_ite_eq', Finset.mem_univ, if_true, hk, ht,
    and_ite, word_half, half_lt_ite, select_bool, andi_bool, Bool.and_eq_true, decide_eq_true_eq]
  by_cases h1 : P (o + k) <;> by_cases h2 : ov (o + k) (o + l) <;> by_cases h3 : (k : ℕ) < l <;>
    by_cases h4 : P (o + l) <;>
    simp only [h1, h2, h3, h4, half_lt_one, half_lt_zero, mul_one, mul_zero, zero_mul, Nat.add_lt_add_iff_left, and_self, and_true, true_and, and_false, false_and, not_true,
      not_false_iff, if_true, if_false]

/-- All turns of a block, said of which boxes are kept. -/
theorem turns_apply (ov : ℕ → ℕ → Prop) (st : ℕ → Prop) (o : ℕ) (tile : FVec Ideal S128x128 .f32)
    (kb : FVec Ideal S1x128 .f32) (ht : ∀ a b : Fin 128, tile (ix2 a b) = if ov (o + a) (o + b) then 1 else 0)
    (hk : ∀ a : Fin 128, kb (ix2 0 a) = if greedy ov st o (o + a) then 1 else 0) (l : Fin 128) :
    turns tile kb (ix2 0 l) = if greedy ov st (o + 128) (o + l) then 1 else 0 := by
  have key := fold_inv (turn tile) kb
    (fun m x => ∀ a : Fin 128, x (ix2 0 a) = if greedy ov st (o + m) (o + a) then 1 else 0) hk
    (fun k x hx a => (turn_apply ov (greedy ov st (o + k)) o tile x ht hx k a).trans (ite_iff Iff.rfl))
  exact key l

theorem greedy_after (ov : ℕ → ℕ → Prop) (st : ℕ → Prop) (j n : ℕ) : greedy ov st (j + n) j ↔ greedy ov st j j := by
  induction n with
  | zero => rfl
  | succ n ih =>
    show greedy ov st (j + n) j ∧ ¬ (ov (j + n) j ∧ j + n < j ∧ greedy ov st (j + n) (j + n)) ↔ _
    rw [ih]
    exact ⟨fun h => h.1, fun h => ⟨h, fun h' => by omega⟩⟩

theorem greedy_settled (ov : ℕ → ℕ → Prop) (st : ℕ → Prop) (j t : ℕ) (h : j ≤ t) : greedy ov st t j ↔ greedy ov st j j := by
  obtain ⟨n, rfl⟩ := Nat.exists_eq_add_of_le h
  exact greedy_after ov st j n

theorem greedy_ahead (ov : ℕ → ℕ → Prop) (st : ℕ → Prop) (o q m : ℕ) (hq : o + m ≤ q) :
    greedy ov st (o + m) q ↔ greedy ov st o q ∧ ∀ a, a < m → ¬ (ov (o + a) q ∧ greedy ov st (o + a) (o + a)) := by
  induction m with
  | zero => exact ⟨fun h => ⟨h, fun a ha => absurd ha (Nat.not_lt_zero a)⟩, fun h => h.1⟩
  | succ m ih =>
    show greedy ov st (o + m) q ∧ ¬ (ov (o + m) q ∧ o + m < q ∧ greedy ov st (o + m) (o + m)) ↔ _
    rw [ih (by omega)]
    constructor
    · rintro ⟨⟨h1, h2⟩, h3⟩
      refine ⟨h1, fun a ha hc => ?_⟩
      rcases Nat.lt_succ_iff_lt_or_eq.mp ha with h | rfl
      · exact h2 a h hc
      · exact h3 ⟨hc.1, by omega, hc.2⟩
    · rintro ⟨h1, h2⟩
      exact ⟨⟨h1, fun a ha => h2 a (by omega)⟩, fun h => h2 m (by omega) ⟨h.1, h.2.2⟩⟩

/-- A whole block's turn on any lane. -/
theorem greedy_block (ov : ℕ → ℕ → Prop) (st : ℕ → Prop) (o q : ℕ) :
    greedy ov st (o + 128) q ↔ (if q < o + 128 then greedy ov st (o + 128) q else greedy ov st o q)
      ∧ ¬ (o + 128 ≤ q ∧ ∃ a : Fin 128, greedy ov st (o + 128) (o + a) ∧ ov (o + a) q) := by
  by_cases h : q < o + 128
  · rw [if_pos h]
    exact ⟨fun h' => ⟨h', fun h2 => by omega⟩, fun h' => h'.1⟩
  · rw [if_neg h, greedy_ahead ov st o q 128 (by omega)]
    refine and_congr_right fun _ => ?_
    constructor
    · rintro h1 ⟨_, a, h2, h3⟩
      exact h1 a a.2 ⟨h3, (greedy_settled ov st _ _ (by omega)).mp h2⟩
    · rintro h1 a ha ⟨h2, h3⟩
      exact h1 ⟨by omega, ⟨a, ha⟩, (greedy_settled ov st _ _ (by show o + a ≤ o + 128; omega)).mpr h3, h2⟩

theorem suppress_apply (ov : ℕ → ℕ → Prop) (P Q : ℕ → Prop) (o : ℕ) (w : BitVec 32)
    (hw : Ideal.ofBits .f32 w = ((o + 128 : ℕ) : EReal)) (kb : FVec Ideal S1x128 .f32) (slab : FVec Ideal S128x1024 .f32)
    (keep : FVec Ideal S1x1024 .f32) (hk : ∀ a : Fin 128, kb (ix2 0 a) = if P (o + a) then 1 else 0)
    (hs : ∀ (a : Fin 128) (q : Fin 1024), slab (ix2 a q) = if ov (o + a) q then 1 else 0)
    (hq : ∀ q : Fin 1024, keep (ix2 0 q) = if Q q then 1 else 0) (q : Fin 1024) :
    suppress w kb slab keep (ix2 0 q)
      = if Q q ∧ ¬ (o + 128 ≤ (q : ℕ) ∧ ∃ a : Fin 128, P (o + a) ∧ ov (o + a) q) then 1 else 0 := by
  pointwise [suppress, laneRow_apply]
  simp only [hk, hs, hq, hw, and_ite, sum_count, word_half, half_lt_nat, nat_le, select_bool, andi_bool, Bool.and_eq_true,
    decide_eq_true_eq, Finset.card_pos]
  have e : (Finset.univ.filter fun x : Fin 128 => P (o + x) ∧ ov (o + x) q).Nonempty
      ↔ ∃ a : Fin 128, P (o + a) ∧ ov (o + a) q := by
    simp [Finset.Nonempty]
  by_cases h1 : (∃ a : Fin 128, P (o + a) ∧ ov (o + a) q) <;> by_cases h2 : o + 128 ≤ (q : ℕ) <;>
    by_cases h4 : Q q <;> simp only [e, h1, h2, h4, and_self, and_true, true_and, and_false, false_and, not_true, not_false_iff, if_true, if_false]

theorem putFirst_apply (f : ℕ → EReal) (keep : FVec Ideal S1x1024 .f32) (kb : FVec Ideal S1x128 .f32)
    (hk : ∀ a : Fin 128, kb (ix2 0 a) = f (0 + a)) (hq : ∀ q : Fin 1024, 0 + 128 ≤ (q : ℕ) → keep (ix2 0 q) = f q)
    (q : Fin 1024) : putFirst keep kb (ix2 0 q) = f q := by
  pointwise [putFirst]
  split_ifs with h
  · rw [hk]; congr 1; simp
  · rw [hq _ (by show 0 + 128 ≤ 128 + ((q : ℕ) - 128); omega)]; congr 1; show 128 + ((q : ℕ) - 128) = q; omega
  · exact absurd rfl (by assumption)

theorem putLast_apply (f : ℕ → EReal) (keep : FVec Ideal S1x1024 .f32) (kb : FVec Ideal S1x128 .f32)
    (hk : ∀ a : Fin 128, kb (ix2 0 a) = f (896 + a)) (hq : ∀ q : Fin 1024, (q : ℕ) < 896 → keep (ix2 0 q) = f q)
    (q : Fin 1024) : putLast keep kb (ix2 0 q) = f q := by
  pointwise [putLast]
  split_ifs with h
  · exact hq _ h
  · rw [hk]; congr 1; show 896 + ((q : ℕ) - 896) = q; omega
  · exact absurd rfl (by assumption)

theorem putMid_apply (f : ℕ → EReal) (o n : ℕ) (hn : o + 128 + n = 1024) (h1 : S1x1024.Slices ![0, 0] ⟨2, ![1, o]⟩)
    (h2 : S1x1024.Slices ![0, o + 128] ⟨2, ![1, n]⟩)
    (h : Shape.Concatenates [⟨2, ![1, o]⟩, S1x128, ⟨2, ![1, n]⟩] S1x1024 1)
    (keep : FVec Ideal S1x1024 .f32) (kb : FVec Ideal S1x128 .f32)
    (hk : ∀ a : Fin 128, kb (ix2 0 a) = f (o + a))
    (hq : ∀ q : Fin 1024, ((q : ℕ) < o ∨ o + 128 ≤ (q : ℕ)) → keep (ix2 0 q) = f q)
    (q : Fin 1024) : putMid o n hn h1 h2 h keep kb (ix2 0 q) = f q := by
  pointwise [putMid]
  by_cases ha : (q : ℕ) < o
  · rw [dif_pos ha]
    refine (congrArg keep ?_).trans (hq q (Or.inl ha))
    refine congrArg (ix2 0) (Fin.ext ?_)
    rfl
  rw [dif_neg ha]
  by_cases hb : (q : ℕ) - o < 128
  · rw [dif_pos hb, hk]
    exact congrArg f (by show o + ((q : ℕ) - o) = q; omega)
  rw [dif_neg hb]
  refine (congrArg keep ?_).trans (hq q (Or.inr (by omega)))
  refine congrArg (ix2 0) (Fin.ext ?_)
  show o + 128 + ((q : ℕ) - o - 128) = q
  omega

/-- Ratio `a`, `b` is above the bound. -/
def over (R : ℕ → ℕ → EReal) (a b : ℕ) : Prop := bound < R a b

/-- The ratios of a block, said of which are above the bound. -/
theorem coverSlab_apply (R : ℕ → ℕ → EReal) (o : ℕ) (x : FVec Ideal S128x1024 .f32)
    (hx : ∀ (a : Fin 128) (q : Fin 1024), x (ix2 a q) = R (o + a) q) (a : Fin 128) (q : Fin 1024) :
    coverSlab x (ix2 a q) = if over R (o + a) q then 1 else 0 := by
  pointwise [coverSlab]
  simp only [hx]
  exact ite_iff Iff.rfl

theorem coverTile_apply (R : ℕ → ℕ → EReal) (o : ℕ) (x : FVec Ideal S128x128 .f32)
    (hx : ∀ a b : Fin 128, x (ix2 a b) = R (o + a) (o + b)) (a b : Fin 128) :
    coverTile x (ix2 a b) = if over R (o + a) (o + b) then 1 else 0 := by
  pointwise [coverTile]
  simp only [hx]
  exact ite_iff Iff.rfl

theorem part_apply (f : ℕ → EReal) (o : ℕ) (h : S1x1024.Slices ![0, o] S1x128) (keep : FVec Ideal S1x1024 .f32)
    (hq : ∀ q : Fin 1024, keep (ix2 0 q) = f q) (a : Fin 128) : part o h keep (ix2 0 a) = f (o + a) := by
  pointwise [part]
  exact hq _

section Steps
variable (R : ℕ → ℕ → EReal) (st : ℕ → Prop)

/-- The kept boxes, as indicators, after the first `t` boxes have had their turn. -/
def keptAt (t q : ℕ) : EReal := if greedy (over R) st t q then 1 else 0

theorem block_turns (o : ℕ) (h : S1x1024.Slices ![0, o] S1x128) (t : FVec Ideal S128x128 .f32) (keep : FVec Ideal S1x1024 .f32)
    (ht : ∀ a b : Fin 128, t (ix2 a b) = R (o + a) (o + b)) (hq : ∀ q : Fin 1024, keep (ix2 0 q) = keptAt R st o q)
    (a : Fin 128) : turns (coverTile t) (part o h keep) (ix2 0 a) = keptAt R st (o + 128) (o + a) :=
  turns_apply (over R) st o _ _ (coverTile_apply R o t ht)
    (part_apply (keptAt R st o) o h keep hq) a

/-- The lanes once the block is put back, before it acts on the later lanes. -/
def between (o q : ℕ) : Prop :=
  if q < o + 128 then greedy (over R) st (o + 128) q else greedy (over R) st o q

theorem between_block (o q : ℕ) (h : q < o + 128) : keptAt R st (o + 128) q = if between R st o q then 1 else 0 :=
  ite_iff (by unfold between; rw [if_pos h])

theorem between_other (o q : ℕ) (h : q < o ∨ o + 128 ≤ q) : keptAt R st o q = if between R st o q then 1 else 0 := by
  refine ite_iff ?_
  unfold between
  rcases h with h | h
  · rw [if_pos (by omega), greedy_settled _ _ q o (by omega), greedy_settled _ _ q (o + 128) (by omega)]
  · rw [if_neg (by omega)]

theorem block_suppress (o : ℕ) (w : BitVec 32) (hw : Ideal.ofBits .f32 w = ((o + 128 : ℕ) : EReal)) (kb : FVec Ideal S1x128 .f32)
    (sl : FVec Ideal S128x1024 .f32) (keep : FVec Ideal S1x1024 .f32)
    (hk : ∀ a : Fin 128, kb (ix2 0 a) = keptAt R st (o + 128) (o + a))
    (hs : ∀ (a : Fin 128) (q : Fin 1024), sl (ix2 a q) = R (o + a) q)
    (hq : ∀ q : Fin 1024, keep (ix2 0 q) = if between R st o q then 1 else 0) (q : Fin 1024) :
    suppress w kb (coverSlab sl) keep (ix2 0 q) = keptAt R st (o + 128) q := by
  refine (suppress_apply (over R) (greedy (over R) st (o + 128)) (between R st o) o w hw kb
    (coverSlab sl) keep hk (coverSlab_apply R o sl hs) hq q).trans ?_
  exact ite_iff (greedy_block _ st o q).symm

theorem firstStep_apply (t : FVec Ideal S128x128 .f32) (sl : FVec Ideal S128x1024 .f32) (keep : FVec Ideal S1x1024 .f32)
    (ht : ∀ a b : Fin 128, t (ix2 a b) = R (0 + a) (0 + b)) (hs : ∀ (a : Fin 128) (q : Fin 1024), sl (ix2 a q) = R (0 + a) q)
    (hq : ∀ q : Fin 1024, keep (ix2 0 q) = keptAt R st 0 q) (q : Fin 1024) :
    firstStep t sl keep (ix2 0 q) = keptAt R st 128 q := by
  have hk := block_turns R st 0 (by decide) t keep ht hq
  refine block_suppress R st 0 _ word_128 _ sl _ hk hs (fun q => ?_) q
  exact putFirst_apply (fun q => if between R st 0 q then 1 else 0) keep _
    (fun a => (hk a).trans (between_block R st 0 _ (by omega)))
    (fun q h => (hq q).trans (between_other R st 0 q (Or.inr h))) q

theorem midStep_apply (o n : ℕ) (w : BitVec 32) (hw : Ideal.ofBits .f32 w = ((o + 128 : ℕ) : EReal)) (hn : o + 128 + n = 1024)
    (h1 : S1x1024.Slices ![0, 0] ⟨2, ![1, o]⟩) (h2 : S1x1024.Slices ![0, o + 128] ⟨2, ![1, n]⟩)
    (h : Shape.Concatenates [⟨2, ![1, o]⟩, S1x128, ⟨2, ![1, n]⟩] S1x1024 1) (hp : S1x1024.Slices ![0, o] S1x128)
    (t : FVec Ideal S128x128 .f32) (sl : FVec Ideal S128x1024 .f32) (keep : FVec Ideal S1x1024 .f32)
    (ht : ∀ a b : Fin 128, t (ix2 a b) = R (o + a) (o + b)) (hs : ∀ (a : Fin 128) (q : Fin 1024), sl (ix2 a q) = R (o + a) q)
    (hq : ∀ q : Fin 1024, keep (ix2 0 q) = keptAt R st o q) (q : Fin 1024) :
    midStep o n w hn h1 h2 h hp t sl keep (ix2 0 q) = keptAt R st (o + 128) q := by
  have hk := block_turns R st o hp t keep ht hq
  refine block_suppress R st o _ hw _ sl _ hk hs (fun q => ?_) q
  exact putMid_apply (fun q => if between R st o q then 1 else 0) o n hn h1 h2 h keep _
    (fun a => (hk a).trans (between_block R st o _ (by omega)))
    (fun q h => (hq q).trans (between_other R st o q h)) q

theorem lastStep_apply (t : FVec Ideal S128x128 .f32) (keep : FVec Ideal S1x1024 .f32)
    (ht : ∀ a b : Fin 128, t (ix2 a b) = R (896 + a) (896 + b))
    (hq : ∀ q : Fin 1024, keep (ix2 0 q) = keptAt R st 896 q) (q : Fin 1024) :
    lastStep t keep (ix2 0 q) = keptAt R st 1024 q := by
  have hk := block_turns R st 896 (by decide) t keep ht hq
  refine (putLast_apply (fun q => if between R st 896 q then 1 else 0) keep _
    (fun a => (hk a).trans (between_block R st 896 _ (by omega)))
    (fun q h => (hq q).trans (between_other R st 896 q (Or.inl h))) q).trans ?_
  exact (between_block R st 896 q (by omega)).symm

/-- The last row of indicators is the greedy suppression after all 1024 boxes. -/
theorem keepRow_apply (t0 t1 t2 t3 t4 t5 t6 t7 : FVec Ideal S128x128 .f32) (s0 s1 s2 s3 s4 s5 s6 : FVec Ideal S128x1024 .f32)
    (keep : FVec Ideal S1x1024 .f32)
    (h0 : ∀ a b : Fin 128, t0 (ix2 a b) = R (0 + a) (0 + b)) (h1 : ∀ a b : Fin 128, t1 (ix2 a b) = R (128 + a) (128 + b))
    (h2 : ∀ a b : Fin 128, t2 (ix2 a b) = R (256 + a) (256 + b)) (h3 : ∀ a b : Fin 128, t3 (ix2 a b) = R (384 + a) (384 + b))
    (h4 : ∀ a b : Fin 128, t4 (ix2 a b) = R (512 + a) (512 + b)) (h5 : ∀ a b : Fin 128, t5 (ix2 a b) = R (640 + a) (640 + b))
    (h6 : ∀ a b : Fin 128, t6 (ix2 a b) = R (768 + a) (768 + b)) (h7 : ∀ a b : Fin 128, t7 (ix2 a b) = R (896 + a) (896 + b))
    (g0 : ∀ (a : Fin 128) (q : Fin 1024), s0 (ix2 a q) = R (0 + a) q) (g1 : ∀ (a : Fin 128) (q : Fin 1024), s1 (ix2 a q) = R (128 + a) q)
    (g2 : ∀ (a : Fin 128) (q : Fin 1024), s2 (ix2 a q) = R (256 + a) q) (g3 : ∀ (a : Fin 128) (q : Fin 1024), s3 (ix2 a q) = R (384 + a) q)
    (g4 : ∀ (a : Fin 128) (q : Fin 1024), s4 (ix2 a q) = R (512 + a) q) (g5 : ∀ (a : Fin 128) (q : Fin 1024), s5 (ix2 a q) = R (640 + a) q)
    (g6 : ∀ (a : Fin 128) (q : Fin 1024), s6 (ix2 a q) = R (768 + a) q)
    (hq : ∀ q : Fin 1024, keep (ix2 0 q) = keptAt R st 0 q) (q : Fin 1024) :
    keepRow t0 t1 t2 t3 t4 t5 t6 t7 s0 s1 s2 s3 s4 s5 s6 keep (ix2 0 q) = keptAt R st 1024 q :=
  lastStep_apply R st t7 _ h7
    (midStep_apply R st 768 128 _ word_896 _ _ _ _ _ t6 s6 _ h6 g6
    (midStep_apply R st 640 256 _ word_768 _ _ _ _ _ t5 s5 _ h5 g5
    (midStep_apply R st 512 384 _ word_640 _ _ _ _ _ t4 s4 _ h4 g4
    (midStep_apply R st 384 512 _ word_512 _ _ _ _ _ t3 s3 _ h3 g3
    (midStep_apply R st 256 640 _ word_384 _ _ _ _ _ t2 s2 _ h2 g2
    (midStep_apply R st 128 768 _ word_256 _ _ _ _ _ t1 s1 _ h1 g1
    (firstStep_apply R st t0 s0 keep h0 g0 hq))))))) q

end Steps

theorem startRow_apply (C : ℕ → ℕ → EReal) (ct : FVec Ideal S8x1024 .f32)
    (ht : ∀ (p : Fin 1024) (d : Fin 8), ct (ix2 d p) = C p d) (q : Fin 1024) :
    startRow ct (ix2 0 q) = if 0 < C q 6 then 1 else 0 := by
  pointwise [startRow]
  simp only [ht]
  rfl

end Cert.Proof
-- ==== Proof.Iou.lean ====
/-
  Common volume over joint volume of the sorted boxes, one block of 128 rows at a time.
-/
module

public import proofs.«01_k».proof.Proof.Rank

@[expose] public section

set_option maxRecDepth 16384

noncomputable section

namespace Cert.Proof

open Cert.KernelIdeal Cert.KernelIdeal.Gen
open Idealize.ShloMosaic

theorem colOf_slices (d : ℕ) (hd : d + 1 ≤ 8) : S128x8.Slices ![0, d] S128x1 :=
  ⟨rfl, fun a => by
    fin_cases a
    · exact le_refl 128
    · exact hd⟩

theorem rowOf_slices (d : ℕ) (hd : d + 1 ≤ 8) : S8x1024.Slices ![d, 0] S1x1024 :=
  ⟨rfl, fun a => by
    fin_cases a
    · exact hd
    · exact le_refl 1024⟩

section Ops
variable {F : FTy → Type} [FloatOps F]

/-- Column `d` of a block of rows. -/
def colOf (d : ℕ) (hd : d + 1 ≤ 8) (b : FVec F S128x8 .f32) : FVec F S128x1 .f32 :=
  extractStridedSlice S128x1 ![0, d] b (colOf_slices d hd)

/-- Row `d` of the transposed table. -/
def rowOf (d : ℕ) (hd : d + 1 ≤ 8) (ct : FVec F S8x1024 .f32) : FVec F S1x1024 .f32 :=
  extractStridedSlice S1x1024 ![d, 0] ct (rowOf_slices d hd)

def wideCol (x : FVec F S128x1 .f32) : FVec F S128x1024 .f32 := broadcastTo S128x1024 x (by decide)
def wideRow (x : FVec F S1x1024 .f32) : FVec F S128x1024 .f32 := broadcastTo S128x1024 x (by decide)

/-- What dimension `d` adds to the common volumes. -/
def overlapBlk (d : ℕ) (hd : d + 4 ≤ 8) (b : FVec F S128x8 .f32) (ct : FVec F S8x1024 .f32) : FVec F S128x1024 .f32 :=
  maximumf (broadcast S128x1024 (Scalar.ofBits .f32 0x00000000#32))
    (subf (minimumf (wideCol (colOf (d + 3) hd b)) (wideRow (rowOf (d + 3) hd ct)))
      (maximumf (wideCol (colOf d (by omega) b)) (wideRow (rowOf d (by omega) ct))))

/-- The side of each box of a block in dimension `d`. -/
def sideCol (d : ℕ) (hd : d + 4 ≤ 8) (b : FVec F S128x8 .f32) : FVec F S128x1 .f32 :=
  subf (colOf (d + 3) hd b) (colOf d (by omega) b)

/-- The side of every box in dimension `d`. -/
def sideRow (d : ℕ) (hd : d + 4 ≤ 8) (ct : FVec F S8x1024 .f32) : FVec F S1x1024 .f32 :=
  subf (rowOf (d + 3) hd ct) (rowOf d (by omega) ct)

/-- The common volumes of a block of boxes with all boxes. -/
def commonBlk (b : FVec F S128x8 .f32) (ct : FVec F S8x1024 .f32) : FVec F S128x1024 .f32 :=
  mulf (mulf (mulf (broadcast S128x1024 (Scalar.ofBits .f32 0x3F800000#32)) (overlapBlk 0 (by decide) b ct))
    (overlapBlk 1 (by decide) b ct)) (overlapBlk 2 (by decide) b ct)

def volCol (b : FVec F S128x8 .f32) : FVec F S128x1 .f32 :=
  mulf (mulf (mulf (broadcast S128x1 (Scalar.ofBits .f32 0x3F800000#32)) (sideCol 0 (by decide) b))
    (sideCol 1 (by decide) b)) (sideCol 2 (by decide) b)

def volRow (ct : FVec F S8x1024 .f32) : FVec F S1x1024 .f32 :=
  mulf (mulf (mulf (broadcast S1x1024 (Scalar.ofBits .f32 0x3F800000#32)) (sideRow 0 (by decide) ct))
    (sideRow 1 (by decide) ct)) (sideRow 2 (by decide) ct)

/-- The ratios of the rows `o … o + 127`. -/
def iouBlk (o : ℕ) (ho : o + 128 ≤ 1024) (c : FVec F S1024x8 .f32) (ct : FVec F S8x1024 .f32) : FVec F S128x1024 .f32 :=
  shapeCast S128x1024 (divf (commonBlk (rowsOf o ho c) ct)
    (maximumf (subf (addf (wideCol (volCol (rowsOf o ho c))) (wideRow (volRow ct))) (commonBlk (rowsOf o ho c) ct))
      (broadcast S128x1024 (Scalar.ofBits .f32 0x358637BD#32)))) (by decide)

end Ops

/-- The kernel's bound from below of a joint volume. -/
abbrev tiny : EReal := Ideal.ofBits .f32 0x358637BD#32

theorem overlapBlk_apply (C : ℕ → ℕ → EReal) (o d : ℕ) (hd : d + 4 ≤ 8) (ho : o + 128 ≤ 1024) (c : FVec Ideal S1024x8 .f32)
    (ct : FVec Ideal S8x1024 .f32) (hc : ∀ (p : Fin 1024) (d : Fin 8), c (ix2 p d) = C p d)
    (ht : ∀ (p : Fin 1024) (d : Fin 8), ct (ix2 d p) = C p d) (r : Fin 128) (q : Fin 1024) :
    overlapBlk d hd (rowsOf o ho c) ct (ix2 r q) = overlap C 0 (o + r) q d := by
  pointwise [overlapBlk, wideCol, wideRow, colOf, rowOf, rowsOf]
  simp only [hc, ht]
  rfl

theorem commonBlk_apply (C : ℕ → ℕ → EReal) (o : ℕ) (ho : o + 128 ≤ 1024) (c : FVec Ideal S1024x8 .f32)
    (ct : FVec Ideal S8x1024 .f32) (hc : ∀ (p : Fin 1024) (d : Fin 8), c (ix2 p d) = C p d)
    (ht : ∀ (p : Fin 1024) (d : Fin 8), ct (ix2 d p) = C p d) (r : Fin 128) (q : Fin 1024) :
    commonBlk (rowsOf o ho c) ct (ix2 r q) = common C 0 (o + r) q := by
  pointwise [commonBlk]
  simp only [overlapBlk_apply C o _ _ ho c ct hc ht, one_mul]
  rfl

theorem volCol_apply (C : ℕ → ℕ → EReal) (o : ℕ) (ho : o + 128 ≤ 1024) (c : FVec Ideal S1024x8 .f32)
    (hc : ∀ (p : Fin 1024) (d : Fin 8), c (ix2 p d) = C p d) (r : Fin 128) (l : Fin 1) :
    volCol (rowsOf o ho c) (ix2 r l) = volume C (o + r) := by
  pointwise [volCol, sideCol, colOf, rowsOf]
  simp only [hc, one_mul]
  rfl

theorem volRow_apply (C : ℕ → ℕ → EReal) (ct : FVec Ideal S8x1024 .f32)
    (ht : ∀ (p : Fin 1024) (d : Fin 8), ct (ix2 d p) = C p d) (q : Fin 1024) (l : Fin 1) :
    volRow ct (ix2 l q) = volume C q := by
  pointwise [volRow, sideRow, rowOf]
  simp only [ht, one_mul]
  rfl

/-- A block of ratios holds the ratio of each of its boxes with every box. -/
theorem iouBlk_apply (C : ℕ → ℕ → EReal) (o : ℕ) (ho : o + 128 ≤ 1024) (c : FVec Ideal S1024x8 .f32)
    (ct : FVec Ideal S8x1024 .f32) (hc : ∀ (p : Fin 1024) (d : Fin 8), c (ix2 p d) = C p d)
    (ht : ∀ (p : Fin 1024) (d : Fin 8), ct (ix2 d p) = C p d) (r : Fin 128) (q : Fin 1024) :
    iouBlk o ho c ct (ix2 r q) = ratio C 0 tiny (o + r) q := by
  pointwise [iouBlk, wideCol, wideRow]
  simp only [commonBlk_apply C o ho c ct hc ht, volCol_apply C o ho c hc, volRow_apply C ct ht]
  rfl

/-- What the scratch holds once eight slabs of 128 rows are written: the slab of the row. -/
theorem slab_apply (o : ℕ) (inb : ∀ a, (![o, 0] : Fin 2 → ℕ) a + S128x1024.size a ≤ S1024x1024.size a)
    (w : S128x1024.Idx → Elt Ideal .f32) (L : List (View.Piece (Elt Ideal) S1024x1024 .f32)) (f : ℕ → EReal) (p q : Fin 1024)
    (hw : ∀ r : Fin 128, w (ix2 r q) = f (o + r)) (hL : ¬ (o ≤ (p : ℕ) ∧ (p : ℕ) < o + 128) → View.canon L (ix2 p q) = f p) :
    View.canon ((⟨Rect.unit (s := S1024x1024) ![o, 0] S128x1024.size inb, w⟩ : View.Piece (Elt Ideal) S1024x1024 .f32) :: L)
      (ix2 p q) = f p := by
  by_cases h : o ≤ (p : ℕ) ∧ (p : ℕ) < o + 128
  · have e : (Rect.unit (s := S1024x1024) ![o, 0] S128x1024.size inb).emb (ix2 (⟨(p : ℕ) - o, by omega⟩ : Fin 128) q)
        = ix2 p q := by
      funext a; apply Fin.ext
      fin_cases a
      · show o + 1 * ((p : ℕ) - o) = p; omega
      · show 0 + 1 * (q : ℕ) = q; omega
    rw [← e, View.canon_cons_emb, hw]
    congr 1
    show o + ((p : ℕ) - o) = p
    omega
  · rw [View.canon_cons_of_not_mem _ L ?_]
    · exact hL h
    · intro hm
      obtain ⟨x, hx⟩ := (Rect.unit (s := S1024x1024) ![o, 0] S128x1024.size inb).exists_idx_of_mem hm
      apply h
      have h0 : o + 1 * (x 0).val = (p : ℕ) := congrArg (fun y : S1024x1024.Idx => (y 0).val) hx
      have h1 : (x 0).val < 128 := (x 0).isLt
      omega

end Cert.Proof
-- ==== Proof.Order.lean ====
module

public import proofs.«01_k».proof.Proof.Keep

/-!
The final order: how many rows are kept up to each row, the place of every row, and the rows put there.
-/

@[expose] public section
set_option maxRecDepth 16384
noncomputable section
namespace Cert.Proof
open Cert.KernelIdeal Cert.KernelIdeal.Gen
open Idealize.ShloMosaic

section Ops
variable {F : FTy → Type} [FloatOps F]

/-- The real lanes that are not kept, as indicators. -/
def restRow (keep : FVec F S1x1024 .f32) : FVec F S1x1024 .f32 :=
  mulf (select (cmpf .olt (laneRow (F := F)) (broadcast S1x1024 (Scalar.ofBits .f32 0x447A0000#32)))
      (broadcast S1x1024 (Scalar.ofBits .f32 0x3F800000#32)) (broadcast S1x1024 (Scalar.ofBits .f32 0x00000000#32)))
    (subf (broadcast S1x1024 (Scalar.ofBits .f32 0x3F800000#32)) keep)

/-- How many lanes are kept. -/
def keptCount (keep : FVec F S1x1024 .f32) : FVec F S1x1 .f32 :=
  shapeCast S1x1 (multiReduction .add [1] S1 keep 0x00000000#32 (by decide) (.inl rfl) rfl) (by decide)

/-- Which lanes are at or before lane `o + l`, `w` being the word of `o`. -/
def upTo (w : BitVec 32) : FVec F S1024x128 .f32 :=
  select (cmpf .ole (sitofp (F := F) .f32 (iota .tc S1024x128 32 [0] (by decide)))
      (addf (sitofp .f32 (iota .tc S1024x128 32 [1] (by decide))) (broadcast S1024x128 (Scalar.ofBits .f32 w))))
    (broadcast S1024x128 (Scalar.ofBits .f32 0x3F800000#32)) (broadcast S1024x128 (Scalar.ofBits .f32 0x00000000#32))

/-- Of the lanes `o … o + 127`: how many indicators are set up to each. -/
def countBlk (w : BitVec 32) (x : FVec F S1x1024 .f32) : FVec F S1x128 .f32 :=
  matmul dot_S1x1024_S1024x128_S1x128_1_0_0_1_n_n none x (upTo w) (constant S1x128 .f32 0x00000000#32)

/-- How many indicators are set up to each lane. -/
def countRow (x : FVec F S1x1024 .f32) : FVec F S1x1024 .f32 :=
  row8 (countBlk 0x00000000#32 x) (countBlk 0x43000000#32 x) (countBlk 0x43800000#32 x) (countBlk 0x43C00000#32 x)
    (countBlk 0x44000000#32 x) (countBlk 0x44200000#32 x) (countBlk 0x44400000#32 x) (countBlk 0x44600000#32 x)

/-- The place of every lane. -/
def placeRow (keep : FVec F S1x1024 .f32) : FVec F S1x1024 .f32 :=
  select (cmpf .olt (laneRow (F := F)) (broadcast S1x1024 (Scalar.ofBits .f32 0x447A0000#32)))
    (select (cmpf .ogt keep (broadcast S1x1024 (Scalar.ofBits .f32 0x3F000000#32)))
      (subf (countRow keep) (broadcast S1x1024 (Scalar.ofBits .f32 0x3F800000#32)))
      (subf (addf (broadcastTo S1x1024 (keptCount keep) (by decide)) (countRow (restRow keep)))
        (broadcast S1x1024 (Scalar.ofBits .f32 0x3F800000#32))))
    (broadcast S1x1024 (Scalar.ofBits .f32 0x45800000#32))

/-- The values of the lanes `o … o + 127`, as a column. -/
def turned (w : BitVec 32) (v : FVec F S1x1024 .f32) : FVec F S128x1 .f32 :=
  shapeCast S128x1 (multiReduction .add [1] S128
    (select (cmpf .oeq (laneNo (F := F))
        (addf (sitofp .f32 (iota .tc S128x1024 32 [0] (by decide))) (broadcast S128x1024 (Scalar.ofBits .f32 w))))
      (broadcastTo S128x1024 (shapeCast S1x1024 v (by decide)) (by decide))
      (broadcast S128x1024 (Scalar.ofBits .f32 0x00000000#32)))
    0x00000000#32 (by decide) (.inl rfl) rfl) (by decide)

/-- The rows `o … o + 127`, the last column saying which are kept. -/
def flagged (o : ℕ) (ho : o + 128 ≤ 1024) (w : BitVec 32) (C : FVec F S1024x8 .f32) (keep : FVec F S1x1024 .f32) :
    FVec F S128x8 .f32 :=
  select (cmpi .eq (iota .tc S128x8 32 [1] (by decide)) (broadcast S128x8 7#32))
    (broadcastTo S128x8 (shapeCast S128x1 (turned w keep) (by decide)) (by decide)) (rowsOf o ho C)

/-- One block's share of the result. -/
def outBlk (o : ℕ) (ho : o + 128 ≤ 1024) (w : BitVec 32) (C : FVec F S1024x8 .f32) (keep place : FVec F S1x1024 .f32)
    (acc : FVec F S1024x8 .f32) : FVec F S1024x8 .f32 :=
  addRows acc (oneHot (turned w place)) (flagged o ho w C keep)

/-- The result: every row in its place. -/
def outRows (C : FVec F S1024x8 .f32) (keep place : FVec F S1x1024 .f32) : FVec F S1024x8 .f32 :=
  outBlk 896 (by decide) 0x44600000#32 C keep place (outBlk 768 (by decide) 0x44400000#32 C keep place
    (outBlk 640 (by decide) 0x44200000#32 C keep place (outBlk 512 (by decide) 0x44000000#32 C keep place
    (outBlk 384 (by decide) 0x43C00000#32 C keep place (outBlk 256 (by decide) 0x43800000#32 C keep place
    (outBlk 128 (by decide) 0x43000000#32 C keep place (outBlk 0 (by decide) 0x00000000#32 C keep place
    (broadcast S1024x8 (Scalar.ofBits .f32 0x00000000#32)))))))))

end Ops

section Readings
open scoped Classical

/-- How many lanes up to lane `q` have `P`. -/
def countTo (P : ℕ → Prop) (q : ℕ) : ℕ := ((Finset.range 1024).filter (fun k => P k ∧ k ≤ q)).card

/-- The real lanes that are not kept. -/
def Rest (K : ℕ → Prop) (q : ℕ) : Prop := q < 1000 ∧ ¬ K q

theorem word_of_lane (x : Fin 1024) : FloatOps.sitofp (F := Ideal) .f32 (BitVec.ofNat 32 (x : ℕ)) = ((x : ℕ) : EReal) :=
  sitofp_small _ (by omega)

theorem word_of_row (x : Fin 128) : FloatOps.sitofp (F := Ideal) .f32 (BitVec.ofNat 32 (x : ℕ)) = ((x : ℕ) : EReal) :=
  sitofp_small _ (by omega)

theorem one_sub_one : (1 : EReal) - 1 = 0 := by
  rw [← EReal.coe_one, ← EReal.coe_sub, sub_self, EReal.coe_zero]

theorem restRow_apply (K : ℕ → Prop) (keep : FVec Ideal S1x1024 .f32) (hk : ∀ q : Fin 1024, keep (ix2 0 q) = if K q then 1 else 0)
    (q : Fin 1024) : restRow keep (ix2 0 q) = if Rest K q then 1 else 0 := by
  pointwise [restRow, laneRow_apply]
  simp only [hk, word_1000, nat_lt, select_bool, decide_eq_true_eq]
  by_cases h1 : (q : ℕ) < 1000 <;> by_cases h2 : K q <;> simp [Rest, h1, h2, one_sub_one]

theorem keptCount_apply (K : ℕ → Prop) (keep : FVec Ideal S1x1024 .f32) (hk : ∀ q : Fin 1024, keep (ix2 0 q) = if K q then 1 else 0)
    (a b : Fin 1) : keptCount keep (ix2 a b) = (((Finset.range 1024).filter K).card : EReal) := by
  pointwise [keptCount]
  simp only [hk]
  rw [← sum_count, Finset.sum_range]

theorem countBlk_apply (P : ℕ → Prop) (o : ℕ) (w : BitVec 32) (hw : Ideal.ofBits .f32 w = (o : EReal))
    (x : FVec Ideal S1x1024 .f32) (hx : ∀ q : Fin 1024, x (ix2 0 q) = if P q then 1 else 0) (a : Fin 1) (r : Fin 128) :
    countBlk w x (ix2 a r) = (countTo P (o + r) : EReal) := by
  pointwise [countBlk, upTo]
  obtain rfl : a = 0 := Subsingleton.elim _ _
  simp only [word_of_lane, word_of_row, hw, nat_add, nat_le, hx]
  unfold countTo
  rw [← sum_count, Finset.sum_range]
  refine Finset.sum_congr rfl fun k _ => ?_
  rw [Nat.add_comm (r : ℕ) o]
  by_cases h1 : P k <;> by_cases h2 : (k : ℕ) ≤ o + r <;> simp [h1, h2]

theorem countRow_apply (P : ℕ → Prop) (x : FVec Ideal S1x1024 .f32) (hx : ∀ q : Fin 1024, x (ix2 0 q) = if P q then 1 else 0)
    (a : Fin 1) (q : Fin 1024) : countRow x (ix2 a q) = (countTo P q : EReal) := by
  have key := fun o w hw => countBlk_apply P o w hw x hx
  exact row8_apply (fun n => (countTo P n : EReal)) _ _ _ _ _ _ _ _ (key 0 _ word_zero) (key 128 _ word_128)
    (key 256 _ word_256) (key 384 _ word_384) (key 512 _ word_512) (key 640 _ word_640) (key 768 _ word_768)
    (key 896 _ word_896) a q

theorem countTo_self (P : ℕ → Prop) (q : ℕ) (hq : q < 1024) (h : P q) : countTo P q = ((Finset.range q).filter P).card + 1 := by
  unfold countTo
  have e : (Finset.range 1024).filter (fun k => P k ∧ k ≤ q) = insert q ((Finset.range q).filter P) := by
    ext k
    simp only [Finset.mem_filter, Finset.mem_range, Finset.mem_insert]
    constructor
    · rintro ⟨h1, h2, h3⟩
      rcases Nat.lt_or_ge k q with h4 | h4
      · exact Or.inr ⟨h4, h2⟩
      · exact Or.inl (by omega)
    · rintro (rfl | ⟨h1, h2⟩)
      · exact ⟨hq, h, le_refl _⟩
      · exact ⟨by omega, h2, by omega⟩
  rw [e, Finset.card_insert_of_notMem (by simp)]

theorem placeRow_apply (K : ℕ → Prop) (keep : FVec Ideal S1x1024 .f32) (hk : ∀ q : Fin 1024, keep (ix2 0 q) = if K q then 1 else 0)
    (q : Fin 1024) : placeRow keep (ix2 0 q) = (place K q : EReal) := by
  pointwise [placeRow, laneRow_apply, keptCount_apply K keep hk, countRow_apply K keep hk,
    countRow_apply (Rest K) (restRow keep) (restRow_apply K keep hk)]
  simp only [hk, word_1000, word_half, word_4096, nat_lt, half_lt_ite]
  unfold place
  by_cases h1 : (q : ℕ) < 1000
  · by_cases h2 : K q
    · rw [if_pos h1, if_pos h1, if_pos h2, if_pos h2, countTo_self K q q.2 h2, nat_pred _ (by omega), Nat.add_sub_cancel]
    · rw [if_pos h1, if_pos h1, if_neg h2, if_neg h2, countTo_self (Rest K) q q.2 ⟨h1, h2⟩, nat_add, nat_pred _ (by omega),
        ← Nat.add_assoc, Nat.add_sub_cancel]
      have e : (Finset.range (q : ℕ)).filter (Rest K) = (Finset.range (q : ℕ)).filter (fun t => ¬ K t) := by
        refine Finset.filter_congr fun k hk => ?_
        rw [Finset.mem_range] at hk
        exact ⟨fun h => h.2, fun h => ⟨by omega, h⟩⟩
      rw [e]
  · rw [if_neg h1, if_neg h1]

theorem turned_apply (f : ℕ → EReal) (o : ℕ) (ho : o + 128 ≤ 1024) (w : BitVec 32) (hw : Ideal.ofBits .f32 w = (o : EReal))
    (v : FVec Ideal S1x1024 .f32) (hv : ∀ q : Fin 1024, v (ix2 0 q) = f q) (r : Fin 128) (l : Fin 1) :
    turned w v (ix2 r l) = f (o + r) := by
  pointwise [turned, laneNo]
  simp only [word_of_lane, word_of_row, hw, nat_add, nat_eq, hv]
  rw [Finset.sum_eq_single ⟨o + r, by omega⟩]
  · exact if_pos (by show o + (r : ℕ) = r + o; omega)
  · intro b _ hb
    refine if_neg fun h => hb (Fin.ext ?_)
    show (b : ℕ) = o + r
    omega
  · intro h
    exact absurd (Finset.mem_univ _) h

theorem seven_word (d : Fin 8) : IntOp.cmpi .eq (BitVec.ofNat 32 d) 7#32 = BitVec.ofBool (decide ((d : ℕ) = 7)) := by
  fin_cases d <;> rfl

theorem outBlk_apply (K : ℕ → Prop) (T : ℕ → ℕ → EReal) (o : ℕ) (ho : o + 128 ≤ 1024) (w : BitVec 32)
    (hw : Ideal.ofBits .f32 w = (o : EReal)) (C : FVec Ideal S1024x8 .f32) (hC : ∀ (i : Fin 1024) (d : Fin 8), C (ix2 i d) = T i d)
    (keep place' : FVec Ideal S1x1024 .f32) (hk : ∀ q : Fin 1024, keep (ix2 0 q) = if K q then 1 else 0)
    (hp : ∀ q : Fin 1024, place' (ix2 0 q) = (place K q : EReal)) (acc : FVec Ideal S1024x8 .f32) (p : Fin 1024) (d : Fin 8) :
    outBlk o ho w C keep place' acc (ix2 p d)
      = acc (ix2 p d) + ∑ k ∈ Finset.Ico o (o + 128), (if (p : ℕ) = place K k then 1 else 0)
          * (if (d : ℕ) = 7 then (if K k then 1 else 0) else T k d) := by
  rw [← sum_rows (fun k => (if (p : ℕ) = place K k then 1 else 0) * (if (d : ℕ) = 7 then (if K k then 1 else 0) else T k d))]
  have ht := fun r l => turned_apply (fun k => if K k then 1 else 0) o ho w hw keep hk r l
  have h1 := fun (r : Fin 128) (p : Fin 1024) => oneHot_apply (turned w place') (place K (o + r)) r p
    (turned_apply (fun k => (place K k : EReal)) o ho w hw place' hp r 0)
  pointwise [outBlk, addRows, flagged, rowsOf]
  refine congrArg _ (Finset.sum_congr rfl fun k _ => ?_)
  rw [h1, ht, hC, seven_word, select_bool]
  simp only [decide_eq_true_eq]

/-- The result of the body: row `p` is the row whose place is `p`, column 7 says whether it is kept. -/
theorem outRows_apply (K : ℕ → Prop) (T : ℕ → ℕ → EReal) (C : FVec Ideal S1024x8 .f32)
    (hC : ∀ (i : Fin 1024) (d : Fin 8), C (ix2 i d) = T i d)
    (keep place' : FVec Ideal S1x1024 .f32) (hk : ∀ q : Fin 1024, keep (ix2 0 q) = if K q then 1 else 0)
    (hp : ∀ q : Fin 1024, place' (ix2 0 q) = (place K q : EReal)) (p : Fin 1024) (d : Fin 8) :
    outRows C keep place' (ix2 p d)
      = ∑ k ∈ Finset.range 1024, (if (p : ℕ) = place K k then 1 else 0)
          * (if (d : ℕ) = 7 then (if K k then 1 else 0) else T k d) := by
  have key := fun o ho w hw => outBlk_apply K T o ho w hw C hC keep place' hk hp
  unfold outRows
  rw [key 896 _ _ word_896, key 768 _ _ word_768, key 640 _ _ word_640, key 512 _ _ word_512, key 384 _ _ word_384,
    key 256 _ _ word_256, key 128 _ _ word_128, key 0 _ _ word_zero]
  have z : broadcast S1024x8 (Scalar.ofBits (F := Ideal) .f32 0x00000000#32) (ix2 p d) = (0 : EReal) := by pointwise
  rw [z]
  exact sum_blocks _

end Readings

end Cert.Proof
-- ==== Proof.Links.lean ====
module

public import proofs.«01_k».proof.Proof.Gen.KernelIdeal.Frame
public import proofs.«01_k».proof.Proof.Keep
public import proofs.«01_k».proof.Proof.Iou
public import proofs.«01_k».proof.Proof.Order
public import Idealize.ShloMosaic.Lib.WholeRead

/-!
The values that the run of the kernel's body names, as the operations read in the other modules.
-/

@[expose] public section
set_option maxRecDepth 65536
noncomputable section
namespace Cert.Proof
open Cert.KernelIdeal Cert.KernelIdeal.Gen
open Idealize.ShloMosaic
open Cert.KernelIdeal.Gen.kernelRun0_A

section Links
variable {F : FTy → Type} [FloatOps F]
variable (c : Dev nD) (a0 : Memref sig Kind.tc Space.vmem S1024x8 EltTy.f32) (h0 : a0.IsWhole)
  (a1 : Memref sig Kind.tc Space.vmem S8x1024 EltTy.f32) (h1 : a1.IsWhole) (x0 : Vec F S1024x8 .f32) (x1 : Vec F S8x1024 .f32)

theorem link_r : (sl.r c a0 h0 x0 : Vec F S1024x8 .f32) = x0 := by
  funext x
  refine (Memref.IsWhole.readAt_unread h0 x0 _ x).trans ?_
  congr 1
  funext a
  fin_cases a <;> exact Fin.ext (by simp [Rect.unit])

theorem link_r_1 : (sl.r_1 c a1 h1 x1 : FVec F S8x1024 .f32) = x1 := by
  have e : View.readAt (Elt F) a1.view (Rect.unit ![0, 0] S8x1024.size inb_S8x1024_S8x1024_0_0).toLoadRect (h1.unread x1) = x1 := by
    funext x
    refine (Memref.IsWhole.readAt_unread h1 x1 _ x).trans ?_
    congr 1
    funext a
    fin_cases a <;> exact Fin.ext (by simp [Rect.unit])
  exact (congrArg k0_pay2 e).trans (shapeCast_id x1 _)

theorem link_r_2 : (sl.r_2 c a1 h1 x1 : FVec F S1x1024 .f32) = scoreRow (sl.r_1 c a1 h1 x1) := rfl
theorem link_r_3 : (sl.r_3 c a1 h1 x1 : FVec F S1x1024 .f32) = orderRow (sl.r_1 c a1 h1 x1) := rfl
theorem link_r_18 : (sl.r_18 c a0 h0 a1 h1 x0 x1 : FVec F S1024x1 .f32) = rankCol (sl.r c a0 h0 x0) (sl.r_1 c a1 h1 x1) := rfl

theorem link_r_29 : (sl.r_29 c a0 h0 a1 h1 x0 x1 : FVec F S1024x8 .f32)
    = clipRows (sortRows (sl.r c a0 h0 x0) (sl.r_18 c a0 h0 a1 h1 x0 x1)) := rfl
theorem link_r_30 : (sl.r_30 c a0 h0 a1 h1 x0 x1 : FVec F S8x1024 .f32)
    = clipCols (sortCols (sl.r_1 c a1 h1 x1) (sl.r_18 c a0 h0 a1 h1 x0 x1)) := rfl

/-- The scratch buffer once every slab is stored: the ratios, 128 rows a slab. -/
theorem link_scratch : (sl.HS0_8 c a0 h0 a1 h1 x0 x1 )
    = [⟨Rect.unit ![896, 0] S128x1024.size inb_S1024x1024_S128x1024_896_0,
          iouBlk 896 (by decide) (sl.r_29 c a0 h0 a1 h1 x0 x1) (sl.r_30 c a0 h0 a1 h1 x0 x1)⟩,
       ⟨Rect.unit ![768, 0] S128x1024.size inb_S1024x1024_S128x1024_768_0,
          iouBlk 768 (by decide) (sl.r_29 c a0 h0 a1 h1 x0 x1) (sl.r_30 c a0 h0 a1 h1 x0 x1)⟩,
       ⟨Rect.unit ![640, 0] S128x1024.size inb_S1024x1024_S128x1024_640_0,
          iouBlk 640 (by decide) (sl.r_29 c a0 h0 a1 h1 x0 x1) (sl.r_30 c a0 h0 a1 h1 x0 x1)⟩,
       ⟨Rect.unit ![512, 0] S128x1024.size inb_S1024x1024_S128x1024_512_0,
          iouBlk 512 (by decide) (sl.r_29 c a0 h0 a1 h1 x0 x1) (sl.r_30 c a0 h0 a1 h1 x0 x1)⟩,
       ⟨Rect.unit ![384, 0] S128x1024.size inb_S1024x1024_S128x1024_384_0,
          iouBlk 384 (by decide) (sl.r_29 c a0 h0 a1 h1 x0 x1) (sl.r_30 c a0 h0 a1 h1 x0 x1)⟩,
       ⟨Rect.unit ![256, 0] S128x1024.size inb_S1024x1024_S128x1024_256_0,
          iouBlk 256 (by decide) (sl.r_29 c a0 h0 a1 h1 x0 x1) (sl.r_30 c a0 h0 a1 h1 x0 x1)⟩,
       ⟨Rect.unit ![128, 0] S128x1024.size inb_S1024x1024_S128x1024_128_0,
          iouBlk 128 (by decide) (sl.r_29 c a0 h0 a1 h1 x0 x1) (sl.r_30 c a0 h0 a1 h1 x0 x1)⟩,
       ⟨Rect.unit ![0, 0] S128x1024.size inb_S1024x1024_S128x1024_0_0,
          iouBlk 0 (by decide) (sl.r_29 c a0 h0 a1 h1 x0 x1) (sl.r_30 c a0 h0 a1 h1 x0 x1)⟩] := rfl

variable (a3 : Memref sig Kind.tc Space.vmem S1024x1024 EltTy.f32)

/-- The row of kept lanes is the eight blocks' turns on the stored ratios. -/
theorem link_keep : (sl.r_114 c a0 h0 a1 h1 a3 x0 x1 : FVec F S1x1024 .f32)
    = keepRow (sl.v932 c a0 h0 a1 h1 a3 x0 x1) (sl.v957 c a0 h0 a1 h1 a3 x0 x1) (sl.v983 c a0 h0 a1 h1 a3 x0 x1)
        (sl.v1009 c a0 h0 a1 h1 a3 x0 x1) (sl.v1035 c a0 h0 a1 h1 a3 x0 x1) (sl.v1061 c a0 h0 a1 h1 a3 x0 x1)
        (sl.v1087 c a0 h0 a1 h1 a3 x0 x1) (sl.v1113 c a0 h0 a1 h1 a3 x0 x1) (sl.v942 c a0 h0 a1 h1 a3 x0 x1)
        (sl.v968 c a0 h0 a1 h1 a3 x0 x1) (sl.v994 c a0 h0 a1 h1 a3 x0 x1) (sl.v1020 c a0 h0 a1 h1 a3 x0 x1)
        (sl.v1046 c a0 h0 a1 h1 a3 x0 x1) (sl.v1072 c a0 h0 a1 h1 a3 x0 x1) (sl.v1098 c a0 h0 a1 h1 a3 x0 x1)
        (startRow (sl.r_30 c a0 h0 a1 h1 x0 x1)) := rfl

/-- The places are those of the kept lanes. -/
theorem link_place : (sl.r_131 c a0 h0 a1 h1 a3 x0 x1 : FVec F S1x1024 .f32) = placeRow (sl.r_114 c a0 h0 a1 h1 a3 x0 x1) := rfl

/-- What the body stores is every clipped row in its place. -/
theorem link_out : (k0_pay1 (sl.r_29 c a0 h0 a1 h1 x0 x1) (sl.r_146 c a0 h0 a1 h1 a3 x0 x1)
      (sl.r_147 c a0 h0 a1 h1 a3 x0 x1) (sl.r_148 c a0 h0 a1 h1 a3 x0 x1) sl.cst_302 sl.cst_377 : FVec F S1024x8 .f32)
    = outRows (sl.r_29 c a0 h0 a1 h1 x0 x1) (sl.r_114 c a0 h0 a1 h1 a3 x0 x1) (sl.r_131 c a0 h0 a1 h1 a3 x0 x1) := rfl

end Links
end Cert.Proof
-- ==== Proof.Body.lean ====
module

public import proofs.«01_k».proof.Proof.Links

/-!
What the kernel's body stores, said of the table it reads.
-/

@[expose] public section
set_option maxRecDepth 65536
noncomputable section
namespace Cert.Proof
open Cert.KernelIdeal Cert.KernelIdeal.Gen
open Idealize.ShloMosaic
open Cert.KernelIdeal.Gen.kernelRun0_A

/-- The sorted and clipped table of `X`. -/
def boxes (X : ℕ → ℕ → EReal) : ℕ → ℕ → EReal := clipped X sceneLo sceneHi

/-- The ratios of common to joint volume. -/
def ratios (X : ℕ → ℕ → EReal) : ℕ → ℕ → EReal := ratio (boxes X) 0 tiny

/-- Which sorted rows are kept in the end. -/
def kept (X : ℕ → ℕ → EReal) : ℕ → Prop := greedy (over (ratios X)) (fun q => 0 < boxes X q 6) 1024

open scoped Classical in
/-- The result of the body: row `p` is the row whose place is `p`; column 7 says whether it is kept. -/
def result (X : ℕ → ℕ → EReal) (p d : ℕ) : EReal :=
  ∑ k ∈ Finset.range 1024, (if p = place (kept X) k then 1 else 0) * (if d = 7 then (if kept X k then 1 else 0) else boxes X k d)

/-- A square read from the middle of a scratch buffer whose contents are known. -/
theorem tile_read (v : View sig Kind.tc Space.vmem S1024x1024 .f32) (L : List (View.Piece (Elt Ideal) S1024x1024 .f32))
    (f : ℕ → ℕ → EReal) (hL : ∀ p q : Fin 1024, View.canon L (ix2 p q) = f p q) (o : ℕ)
    (inb : ∀ a, (![o, o] : Fin 2 → ℕ) a + S128x128.size a ≤ S1024x1024.size a) (a b : Fin 128) :
    v.readCov L (Rect.unit (s := S1024x1024) ![o, o] S128x128.size inb).toLoadRect (ix2 a b) = f (o + a) (o + b) := by
  have ho : o + 128 ≤ 1024 := inb 0
  rw [View.readCov_eq_canon']
  refine Eq.trans (congrArg (View.canon L) ?_) (hL ⟨o + a, by omega⟩ ⟨o + b, by omega⟩)
  funext i; apply Fin.ext
  fin_cases i
  · show o + 1 * (a : ℕ) = o + a; omega
  · show o + 1 * (b : ℕ) = o + b; omega

/-- A panel of 128 rows read from it. -/
theorem panel_read (v : View sig Kind.tc Space.vmem S1024x1024 .f32) (L : List (View.Piece (Elt Ideal) S1024x1024 .f32))
    (f : ℕ → ℕ → EReal) (hL : ∀ p q : Fin 1024, View.canon L (ix2 p q) = f p q) (o : ℕ)
    (inb : ∀ a, (![o, 0] : Fin 2 → ℕ) a + S128x1024.size a ≤ S1024x1024.size a) (a : Fin 128) (q : Fin 1024) :
    v.readCov L (Rect.unit (s := S1024x1024) ![o, 0] S128x1024.size inb).toLoadRect (ix2 a q) = f (o + a) q := by
  have ho : o + 128 ≤ 1024 := inb 0
  rw [View.readCov_eq_canon']
  refine Eq.trans (congrArg (View.canon L) ?_) (hL ⟨o + a, by omega⟩ q)
  funext i; apply Fin.ext
  fin_cases i
  · show o + 1 * (a : ℕ) = o + a; omega
  · show 0 + 1 * (q : ℕ) = q; omega

section Body
variable (c : Dev nD) (a0 : Memref sig Kind.tc Space.vmem S1024x8 EltTy.f32) (h0 : a0.IsWhole)
  (a1 : Memref sig Kind.tc Space.vmem S8x1024 EltTy.f32) (h1 : a1.IsWhole) (a3 : Memref sig Kind.tc Space.vmem S1024x1024 EltTy.f32)
  (x0 : Vec Ideal S1024x8 .f32) (x1 : Vec Ideal S8x1024 .f32)
  (X : ℕ → ℕ → EReal) (hx : ∀ (i : Fin 1024) (d : Fin 8), x0 (ix2 i d) = X i d) (ht : ∀ (i : Fin 1024) (d : Fin 8), x1 (ix2 d i) = X i d)
include hx ht

theorem ranks_apply (i : Fin 1024) (l : Fin 1) : sl.r_18 c a0 h0 a1 h1 x0 x1 (ix2 i l) = (rank X i : EReal) := by
  rw [link_r_18, link_r, link_r_1]
  exact rankCol_apply X x0 x1 hx (fun d i => ht i d) i l

theorem boxes_apply (p : Fin 1024) (d : Fin 8) : sl.r_29 c a0 h0 a1 h1 x0 x1 (ix2 p d) = boxes X p d := by
  rw [link_r_29, link_r]
  exact clipRows_apply X _ (sortRows_apply X x0 _ hx (ranks_apply c a0 h0 a1 h1 x0 x1 X hx ht)) p d

theorem boxesT_apply (p : Fin 1024) (d : Fin 8) : sl.r_30 c a0 h0 a1 h1 x0 x1 (ix2 d p) = boxes X p d := by
  rw [link_r_30, link_r_1]
  exact clipCols_apply X _ (sortCols_apply X x1 _ (fun d i => ht i d) (ranks_apply c a0 h0 a1 h1 x0 x1 X hx ht)) p d

theorem scratch_apply (p q : Fin 1024) : View.canon (sl.HS0_8 c a0 h0 a1 h1 x0 x1) (ix2 p q) = ratios X p q := by
  rw [link_scratch]
  have key := fun o ho r q => iouBlk_apply (boxes X) o ho _ _ (boxes_apply c a0 h0 a1 h1 x0 x1 X hx ht)
    (boxesT_apply c a0 h0 a1 h1 x0 x1 X hx ht) r q
  refine slab_apply 896 _ _ _ (fun p => ratios X p q) p q (fun r => key 896 _ r q) fun h7 => ?_
  refine slab_apply 768 _ _ _ (fun p => ratios X p q) p q (fun r => key 768 _ r q) fun h6 => ?_
  refine slab_apply 640 _ _ _ (fun p => ratios X p q) p q (fun r => key 640 _ r q) fun h5 => ?_
  refine slab_apply 512 _ _ _ (fun p => ratios X p q) p q (fun r => key 512 _ r q) fun h4 => ?_
  refine slab_apply 384 _ _ _ (fun p => ratios X p q) p q (fun r => key 384 _ r q) fun h3 => ?_
  refine slab_apply 256 _ _ _ (fun p => ratios X p q) p q (fun r => key 256 _ r q) fun h2 => ?_
  refine slab_apply 128 _ _ _ (fun p => ratios X p q) p q (fun r => key 128 _ r q) fun h1 => ?_
  refine slab_apply 0 _ _ _ (fun p => ratios X p q) p q (fun r => key 0 _ r q) fun h0 => ?_
  omega

open scoped Classical in
theorem keep_apply (q : Fin 1024) :
    sl.r_114 c a0 h0 a1 h1 a3 x0 x1 (ix2 0 q) = keptAt (ratios X) (fun q => 0 < boxes X q 6) 1024 q := by
  have S := scratch_apply c a0 h0 a1 h1 x0 x1 X hx ht
  have tile := fun o inb a b => tile_read a3.view _ (ratios X) S o inb a b
  have panel := fun o inb a b => panel_read a3.view _ (ratios X) S o inb a b
  rw [link_keep]
  refine keepRow_apply (ratios X) (fun q => 0 < boxes X q 6) _ _ _ _ _ _ _ _ _ _ _ _ _ _ _ _
    (tile 0 _) (tile 128 _) (tile 256 _) (tile 384 _) (tile 512 _) (tile 640 _) (tile 768 _) (tile 896 _)
    (panel 0 _) (panel 128 _) (panel 256 _) (panel 384 _) (panel 512 _) (panel 640 _) (panel 768 _) (fun q => ?_) q
  refine (startRow_apply (boxes X) _ (boxesT_apply c a0 h0 a1 h1 x0 x1 X hx ht) q).trans ?_
  unfold keptAt
  exact ite_iff Iff.rfl

open scoped Classical in
/-- What the body stores. -/
theorem body_apply (p : Fin 1024) (d : Fin 8) :
    k0_pay1 (sl.r_29 c a0 h0 a1 h1 x0 x1) (sl.r_146 c a0 h0 a1 h1 a3 x0 x1) (sl.r_147 c a0 h0 a1 h1 a3 x0 x1)
      (sl.r_148 c a0 h0 a1 h1 a3 x0 x1) sl.cst_302 sl.cst_377 (ix2 p d) = result X p d := by
  have hk := keep_apply c a0 h0 a1 h1 a3 x0 x1 X hx ht
  rw [link_out]
  refine outRows_apply (kept X) (boxes X) _ (boxes_apply c a0 h0 a1 h1 x0 x1 X hx ht) _ _ hk (fun q => ?_) p d
  rw [link_place]
  exact placeRow_apply (kept X) _ hk q

end Body

end Cert.Proof
-- ==== Proof.KernelRun.lean ====
module

public import proofs.«01_k».proof.Proof.Body
public import Idealize.ShloMosaic.Lib.Claim
public import Idealize.ShloMosaic.Lib.Pipeline.ValueKit
public import Idealize.ShloMosaic.Lib.StableHlo.RunRead

/-!
What the kernel leaves in its two results, said of the table it is given.
-/

@[expose] public section
set_option maxRecDepth 65536
noncomputable section
namespace Cert.Proof
open Cert.KernelIdeal Cert.KernelIdeal.Gen
open Idealize.ShloMosaic Idealize.SL.Sem
open Idealize.ShloMosaic.TcCoe

/-- A table of 1024 rows and 8 columns, at natural numbers. -/
def tableOf (A : S1024x8.Idx → EReal) (i d : ℕ) : EReal := if h : i < 1024 ∧ d < 8 then A (ix2 ⟨i, h.1⟩ ⟨d, h.2⟩) else 0

theorem tableOf_apply (A : S1024x8.Idx → EReal) (i : Fin 1024) (d : Fin 8) : A (ix2 i d) = tableOf A i d := by
  unfold tableOf
  rw [dif_pos ⟨i.2, d.2⟩]

/-- The proposals: the boxes in their places. -/
def proposals (X : ℕ → ℕ → EReal) : S1000x6.Idx → EReal := fun y => result X (y 0 : Fin 1000) (y 1 : Fin 6)

open scoped Classical in
/-- Their scores: minus infinity where the row is not kept. -/
def finalScores (X : ℕ → ℕ → EReal) : S1000.Idx → EReal := fun y =>
  if ((1 / 2 : ℝ) : EReal) < result X (y 0 : Fin 1000) 7 then result X (y 0 : Fin 1000) 6 else ⊥

/-- The first input block is the table. -/
theorem block_rows (m : (ℓ : Loc nD τ sig) → Buf (Elt Ideal) ℓ) (c : Dev nD) :
    (iblk m c 0 t0_0 : S1024x8.Idx → EReal) = m ((c.tc : Thread nD τ).loc main_arg0) := by
  funext j
  unfold iblk
  blk_simp
  have e : (win0_0.blk t0_0).view.emb j = j := by
    funext a; apply Fin.ext; fin_cases a <;> blk_simp
    · show 0 * 1024 + (j 0 : ℕ) = (j 0 : ℕ); omega
    · show 0 * 8 + (j 1 : ℕ) = (j 1 : ℕ); omega
  rw [e]
  show V0 m c (Proc.devRef .tc main_arg0) j = _
  unfold V0
  rw [List.flatten_cons, List.flatten_nil, List.append_nil]
  after_reads_simp

/-- The second is its transpose. -/
theorem block_cols (m : (ℓ : Loc nD τ sig) → Buf (Elt Ideal) ℓ) (c : Dev nD) :
    (iblk m c 1 t0_0 : S8x1024.Idx → EReal)
      = fun j => (m ((c.tc : Thread nD τ).loc main_arg0) : S1024x8.Idx → EReal) (ix2 (j 1 : Fin 1024) (j 0 : Fin 8)) := by
  funext j
  unfold iblk
  blk_simp
  have e : (win0_1.blk t0_0).view.emb j = j := by
    funext a; apply Fin.ext; fin_cases a <;> blk_simp
    · show 0 * 8 + (j 0 : ℕ) = (j 0 : ℕ); omega
    · show 0 * 1024 + (j 1 : ℕ) = (j 1 : ℕ); omega
  rw [e]
  show V0 m c (Proc.devRef .tc main_v0) j = _
  unfold V0
  rw [List.flatten_cons, List.flatten_nil, List.append_nil]
  after_reads_simp
  rw [eq_ix2 (n0 := 8) (n1 := 1024) j]
  pointwise

/-- The window array of the result after the region. -/
theorem window_out (m : (ℓ : Loc nD τ sig) → Buf (Elt Ideal) ℓ) (c : Dev nD) :
    ((dats m 0 c).arrAt 2 cfg0.N : S1024x8.Idx → EReal)
      = fun y => result (tableOf (m ((c.tc : Thread nD τ).loc main_arg0))) (y 0 : Fin 1024) (y 1 : Fin 8) := by
  refine (dats m 0 c).arrAt_eq_of_after_last 2 t0_0 (by decide +kernel) _ fun j => ?_
  blk_simp
  rw [after0_2]
  unfold outsAt0 out0_A_2
  rw [View.read_writes_junk_eq_canon]
  refine Eq.trans (show _ = View.canon (kernelRun0_A c (ms0_0 t0_0) (hs0_0 t0_0) (ms0_1 t0_0) (hs0_1 t0_0) (ms0_2 t0_0) (hs0_2 t0_0) scM0_0
    (Memref.isWhole_whole _) (iblk m c 0 t0_0) (iblk m c 1 t0_0)).1 ((Rect.unit (s := S1024x8) ![0, 0] ![1024, 8] inb_S1024x8_S1024x8_0_0).emb j) from ?_) ?_
  · congr 1
    funext a; apply Fin.ext
    fin_cases a
    · show (j 0 : ℕ) = 0 + 1 * (j 0 : ℕ); omega
    · show (j 1 : ℕ) = 0 + 1 * (j 1 : ℕ); omega
  refine (View.canon_cons_emb _ _ _ _).trans ?_
  rw [eq_ix2 (n0 := 1024) (n1 := 8) j]
  refine body_apply c _ _ _ _ _ _ _ (tableOf (m ((c.tc : Thread nD τ).loc main_arg0))) (fun i d => ?_) (fun i d => ?_) _ _
  · exact (congrFun (block_rows m c) (ix2 i d)).trans (tableOf_apply _ i d)
  · exact (congrFun (block_cols m c) (ix2 d i)).trans (tableOf_apply _ i d)

theorem where_v2 (W : Valuation τ sig (Elt Ideal)) :
    StableHlo.after (hostOps1_1 : List (HloOp τ sig (Elt Ideal))) W (Proc.devRef .tc main_v2) = W (Proc.devRef .tc main_v2) := by
  after_reads_simp

theorem line_v2 (W : Valuation τ sig (Elt Ideal)) :
    (StableHlo.after (hostOps1 : List (HloOp τ sig (Elt Ideal))) W (Proc.devRef .tc main_v2) : S1000x6.Idx → EReal)
      = extractStridedSlice S1000x6 ![0, 0] (W (Proc.devRef .tc main_v1) : S1024x8.Idx → EReal) slices_S1024x8_S1000x6_0_0 := by
  after_reads_simp

theorem tail_v2 (W : Valuation τ sig (Elt Ideal)) (f : ℕ → ℕ → EReal)
    (hf : ∀ (p : Fin 1024) (d : Fin 8), (W (Proc.devRef .tc main_v1) : S1024x8.Idx → EReal) (ix2 p d) = f p d) (y : Fin 1000) (d : Fin 6) :
    (StableHlo.after ([hostOps1, hostOps1_1] : List (List (HloOp τ sig (Elt Ideal)))).flatten W (Proc.devRef .tc main_v2) : S1000x6.Idx → EReal) (ix2 y d)
      = f y d := by
  rw [List.flatten_cons, List.flatten_cons, List.flatten_nil, List.append_nil, StableHlo.after_append, where_v2, line_v2]
  pointwise
  exact hf _ _

theorem where_v9 (W : Valuation τ sig (Elt Ideal)) :
    (StableHlo.after (hostOps1_1 : List (HloOp τ sig (Elt Ideal))) W (Proc.devRef .tc main_v9) : S1000.Idx → EReal)
      = select (W (Proc.devRef .tc main_v6) : S1000.Idx → BitVec 1) (W (Proc.devRef .tc main_v8) : S1000.Idx → EReal)
          (broadcastInDim S1000 ![] bcast_S_S1000 (W (Proc.devRef .tc main_cst_0) : S_.Idx → EReal)) := by
  after_reads_simp
  rfl

theorem line_v6 (W : Valuation τ sig (Elt Ideal)) :
    (StableHlo.after (hostOps1 : List (HloOp τ sig (Elt Ideal))) W (Proc.devRef .tc main_v6) : S1000.Idx → BitVec 1)
      = cmpf (F := Ideal) (φ := .f32) .ogt (shapeCast S1000 (extractStridedSlice S1000x1 ![0, 7] (W (Proc.devRef .tc main_v1) : S1024x8.Idx → EReal)
          slices_S1024x8_S1000x1_0_7) shapeCasts_S1000x1_S1000)
          (broadcastInDim S1000 ![] bcast_S_S1000 (constant (F := Ideal) S_ .f32 0x3F000000#32)) := by
  after_reads_simp
  rfl

theorem line_v8 (W : Valuation τ sig (Elt Ideal)) :
    (StableHlo.after (hostOps1 : List (HloOp τ sig (Elt Ideal))) W (Proc.devRef .tc main_v8) : S1000.Idx → EReal)
      = shapeCast S1000 (extractStridedSlice S1000x1 ![0, 6] (W (Proc.devRef .tc main_v1) : S1024x8.Idx → EReal)
          slices_S1024x8_S1000x1_0_6) shapeCasts_S1000x1_S1000 := by
  after_reads_simp
  rfl

theorem line_cst (W : Valuation τ sig (Elt Ideal)) :
    (StableHlo.after (hostOps1 : List (HloOp τ sig (Elt Ideal))) W (Proc.devRef .tc main_cst_0) : S_.Idx → EReal)
      = constant (F := Ideal) S_ .f32 0xFF800000#32 := by
  after_reads_simp

open scoped Classical in
theorem tail_v9 (W : Valuation τ sig (Elt Ideal)) (f : ℕ → ℕ → EReal)
    (hf : ∀ (p : Fin 1024) (d : Fin 8), (W (Proc.devRef .tc main_v1) : S1024x8.Idx → EReal) (ix2 p d) = f p d) (y : Fin 1000) :
    (StableHlo.after ([hostOps1, hostOps1_1] : List (List (HloOp τ sig (Elt Ideal)))).flatten W (Proc.devRef .tc main_v9) : S1000.Idx → EReal) (ix1 y)
      = if ((1 / 2 : ℝ) : EReal) < f y 7 then f y 6 else ⊥ := by
  rw [List.flatten_cons, List.flatten_cons, List.flatten_nil, List.append_nil, StableHlo.after_append, where_v9, line_v6, line_v8, line_cst]
  pointwise
  rw [word_half, word_neg_inf]
  have e7 := hf ⟨y, by omega⟩ 7
  have e6 := hf ⟨y, by omega⟩ 6
  refine Eq.trans ?_ (if_congr (Iff.of_eq (congrArg (fun t => ((1 / 2 : ℝ) : EReal) < t) e7)) e6 rfl)
  rfl

theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v2) = proposals (tableOf (m ((c.tc : Thread nD τ).loc main_arg0)))
      ∧ r.2.mem ((c.tc : Thread nD τ).loc main_v9) = finalScores (tableOf (m ((c.tc : Thread nD τ).loc main_arg0)))
      ∧ r.2.mem ((c.tc : Thread nD τ).loc main_arg0) = m ((c.tc : Thread nD τ).loc main_arg0)) := by
  have W := window_out m
  have hw : ∀ c : Dev nD, ∀ (p : Fin 1024) (d : Fin 8),
      (Pipeline.withArrays (cfgs 0).spec c (V0 m c) (fun w => (dats m 0 c).arrAt w (cfgs 0).N) (Proc.devRef .tc main_v1) : S1024x8.Idx → EReal) (ix2 p d)
        = result (tableOf (m ((c.tc : Thread nD τ).loc main_arg0))) p d := by
    intro c p d
    have e := Pipeline.withArrays_arr (cfgs 0).spec (by decide) c (V0 m c) (fun w => (dats m 0 c).arrAt w (cfgs 0).N) 2
    exact (congrFun e (ix2 p d)).trans (congrFun (W c) (ix2 p d))
  run_from run_main m g
  · funext y
    rw [eq_ix2 (n0 := 1000) (n1 := 6) y]
    exact tail_v2 _ _ (hw c) (y 0) (y 1)
  · funext y
    rw [eq_ix1 (n0 := 1000) y]
    exact tail_v9 _ _ (hw c) (y 0)

end Cert.Proof
-- ==== Proof.RefTable.lean ====
/-
What the reference computes before and after its loop, stretch by stretch: rows taken by number, clipped boxes, ratios.
-/
module

public import proofs.«01_k».proof.Proof.Gen.ReferenceIdeal.Run
public import proofs.«01_k».proof.Proof.Iou
public import proofs.«01_k».proof.Proof.Rank
public import Idealize.ShloMosaic.Lib.ReduceAll
public import Idealize.ShloMosaic.Lib.DynamicIndex
public import Idealize.ShloMosaic.Lib.Routing.Ops

@[expose] public section

set_option maxRecDepth 16384

noncomputable section

namespace Cert.Proof.Ref

open Idealize.ShloMosaic
open Cert.ReferenceIdeal Cert.ReferenceIdeal.Gen

/-- Row numbers as a column, a negative one counted from the end. -/
def takeWords (idx : IVec S1000 32) : IVec S1000x1 32 :=
  broadcastInDim S1000x1 ![0] bcast_S1000_S1000x1_0 (select (cmpi .slt idx (broadcastInDim S1000 ![] bcast_S_S1000 (constantI S_ 32 0#32)))
    (addi idx (broadcastInDim S1000 ![] bcast_S_S1000 (constantI S_ 32 1000#32))) idx)

/-- Which of them are row numbers. -/
def takeMask (w : IVec S1000x1 32) : IVec S1000x1 1 :=
  andi (cmpi .sge w (broadcastInDim S1000x1 ![] bcast_S_S1000x1 (constantI S_ 32 0#32)))
    (cmpi .sle w (broadcastInDim S1000x1 ![0, 1] bcast_S1x1_S1000x1_0_1 (broadcastInDim S1x1 ![1] bcast_S1_S1x1_1 (constantI S1 32 999#32))))

/-- The rows of these numbers. -/
def takeRows (x : FVec Ideal S1000x6 .f32) (idx : IVec S1000 32) : FVec Ideal S1000x6 .f32 :=
  select (broadcastInDim S1000x6 ![0] bcast_S1000_S1000x6_0
      (Host.reduce IntOp.andi (takeMask (takeWords idx)) (constantI S_ 1 1#1) reducesTo_S1000x1_S1000_d1 h_S_))
    (Host.gather gather_S1000x6_S1000x1_S1000x6_1_0_n_n_0_1_16 x (takeWords idx))
    (broadcastInDim S1000x6 ![] bcast_S_S1000x6 (constant S_ .f32 0x7FC00000#32))

theorem slt_zero (k : ℕ) (hk : k < 1000) : IntOp.cmpi .slt (BitVec.ofNat 32 k) 0#32 = 0#1 := by
  show BitVec.ofBool (BitVec.slt (BitVec.ofNat 32 k) 0#32) = 0#1
  rw [BitVec.slt_eq_decide, toInt_ofNat_of_lt (k := k) (by omega)]
  have : (0#32).toInt = 0 := by decide
  rw [this, decide_eq_false (by omega)]
  rfl

theorem sge_zero (k : ℕ) (hk : k < 1000) : IntOp.cmpi .sge (BitVec.ofNat 32 k) 0#32 = 1#1 := by
  show BitVec.ofBool (BitVec.sle 0#32 (BitVec.ofNat 32 k)) = 1#1
  rw [BitVec.sle_eq_decide, toInt_ofNat_of_lt (k := k) (by omega)]
  have : (0#32).toInt = 0 := by decide
  rw [this, decide_eq_true (by omega)]
  rfl

theorem sle_last (k : ℕ) (hk : k < 1000) : IntOp.cmpi .sle (BitVec.ofNat 32 k) 999#32 = 1#1 := by
  show BitVec.ofBool (BitVec.sle (BitVec.ofNat 32 k) 999#32) = 1#1
  rw [BitVec.sle_eq_decide, toInt_ofNat_of_lt (k := k) (by omega)]
  have : (999#32).toInt = 999 := by decide
  rw [this, decide_eq_true (by omega)]
  rfl

theorem takeWords_apply (idx : IVec S1000 32) (s : Fin 1000 → Fin 1000) (h : ∀ p, idx (ix1 p) = BitVec.ofNat 32 (s p : Fin 1000))
    (p : Fin 1000) (l : Fin 1) : takeWords idx (ix2 p l) = BitVec.ofNat 32 (s p : Fin 1000) := by
  have e : takeWords idx (ix2 p l) = Scalar.select (IntOp.cmpi .slt (idx (ix1 p)) 0#32) (IntOp.addi (idx (ix1 p)) 1000#32) (idx (ix1 p)) := by
    pointwise [takeWords]
  rw [e, h, slt_zero _ (s p).2]
  rfl

theorem takeMask_apply (w : IVec S1000x1 32) (s : Fin 1000 → Fin 1000) (h : ∀ (p : Fin 1000) (l : Fin 1), w (ix2 p l) = BitVec.ofNat 32 (s p : Fin 1000))
    (j : S1000x1.Idx) : takeMask w j = 1#1 := by
  have e : ∀ (p : Fin 1000) (l : Fin 1), takeMask w (ix2 p l) = IntOp.andi (IntOp.cmpi .sge (w (ix2 p l)) 0#32) (IntOp.cmpi .sle (w (ix2 p l)) 999#32) := by
    intro p l
    pointwise [takeMask]
  have e2 : ∀ (p : Fin 1000) (l : Fin 1), takeMask w (ix2 p l) = 1#1 := by
    intro p l
    rw [e, h, sge_zero _ (s p).2, sle_last _ (s p).2]
    rfl
  exact (congrArg (takeMask w) (eq_ix2 (n0 := 1000) (n1 := 1) j)).trans (e2 _ _)

/-- The row taken by a row number. -/
theorem takeRows_apply (x : FVec Ideal S1000x6 .f32) (idx : IVec S1000 32) (s : Fin 1000 → Fin 1000)
    (h : ∀ p, idx (ix1 p) = BitVec.ofNat 32 (s p : Fin 1000)) (p : Fin 1000) (d : Fin 6) : takeRows x idx (ix2 p d) = x (ix2 (s p) d) := by
  have e : takeRows x idx (ix2 p d) = Scalar.select
      (Host.reduce IntOp.andi (takeMask (takeWords idx)) (constantI S_ 1 1#1) reducesTo_S1000x1_S1000_d1 h_S_ (ix1 p))
      (Host.gather gather_S1000x6_S1000x1_S1000x6_1_0_n_n_0_1_16 x (takeWords idx) (ix2 p d)) (Ideal.ofBits .f32 0x7FC00000#32) := by
    unfold takeRows
    generalize takeMask (takeWords idx) = u
    generalize takeWords idx = w
    generalize Host.reduce IntOp.andi u (constantI S_ 1 1#1) reducesTo_S1000x1_S1000_d1 h_S_ = v
    generalize Host.gather gather_S1000x6_S1000x1_S1000x6_1_0_n_n_0_1_16 x w = y
    pointwise
  rw [e, Host.reduce_andi_one _ _ _ _ _ rfl (takeMask_apply _ s (takeWords_apply idx s h))]
  refine Eq.trans ?_ (Routing.gather_row gather_S1000x6_S1000x1_S1000x6_1_0_n_n_0_1_16 rfl rfl rfl rfl rfl x (takeWords idx) p d (s p)
    (takeWords_apply idx s h p 0) (by norm_num))
  rfl

/-- Coordinates clipped to the scene. -/
def clipTable (x : FVec Ideal S1000x6 .f32) : FVec Ideal S1000x6 .f32 :=
  minimumf (broadcastInDim S1000x6 ![] bcast_S_S1000x6 (constant S_ .f32 0x43000000#32))
    (maximumf (broadcastInDim S1000x6 ![] bcast_S_S1000x6 (constant S_ .f32 0x00000000#32)) x)

theorem clipTable_apply (x : FVec Ideal S1000x6 .f32) (p : Fin 1000) (d : Fin 6) :
    clipTable x (ix2 p d) = min sceneHi (max sceneLo (x (ix2 p d))) := by
  pointwise [clipTable]

/-- The lower corners, the upper corners. -/
def lows (b : FVec Ideal S1000x6 .f32) : FVec Ideal S1000x3 .f32 := extractStridedSlice S1000x3 ![0, 0] b slices_S1000x6_S1000x3_0_0
def highs (b : FVec Ideal S1000x6 .f32) : FVec Ideal S1000x3 .f32 := extractStridedSlice S1000x3 ![0, 3] b slices_S1000x6_S1000x3_0_3

/-- The volumes. -/
def volumes (b : FVec Ideal S1000x6 .f32) : FVec Ideal S1000 .f32 :=
  mulf (mulf (shapeCast S1000 (extractStridedSlice S1000x1 ![0, 0] (subf (highs b) (lows b)) slices_S1000x3_S1000x1_0_0) shapeCasts_S1000x1_S1000)
    (shapeCast S1000 (extractStridedSlice S1000x1 ![0, 1] (subf (highs b) (lows b)) slices_S1000x3_S1000x1_0_1) shapeCasts_S1000x1_S1000))
    (shapeCast S1000 (extractStridedSlice S1000x1 ![0, 2] (subf (highs b) (lows b)) slices_S1000x3_S1000x1_0_2) shapeCasts_S1000x1_S1000)

/-- The overlaps of all pairs along the three axes. -/
def overlaps (b : FVec Ideal S1000x6 .f32) : FVec Ideal S1000x1000x3 .f32 :=
  maximumf (broadcastInDim S1000x1000x3 ![] bcast_S_S1000x1000x3 (constant S_ .f32 0x00000000#32))
    (subf (minimumf (broadcastInDim S1000x1000x3 ![0, 1, 2] bcast_S1000x1x3_S1000x1000x3_0_1_2 (broadcastInDim S1000x1x3 ![0, 2] bcast_S1000x3_S1000x1x3_0_2 (highs b)))
        (broadcastInDim S1000x1000x3 ![0, 1, 2] bcast_S1x1000x3_S1000x1000x3_0_1_2 (broadcastInDim S1x1000x3 ![1, 2] bcast_S1000x3_S1x1000x3_1_2 (highs b))))
      (maximumf (broadcastInDim S1000x1000x3 ![0, 1, 2] bcast_S1000x1x3_S1000x1000x3_0_1_2 (broadcastInDim S1000x1x3 ![0, 2] bcast_S1000x3_S1000x1x3_0_2 (lows b)))
        (broadcastInDim S1000x1000x3 ![0, 1, 2] bcast_S1x1000x3_S1000x1000x3_0_1_2 (broadcastInDim S1x1000x3 ![1, 2] bcast_S1000x3_S1x1000x3_1_2 (lows b)))))

/-- The common volumes of all pairs. -/
def commons (o : FVec Ideal S1000x1000x3 .f32) : FVec Ideal S1000x1000 .f32 :=
  mulf (mulf (shapeCast S1000x1000 (extractStridedSlice S1000x1000x1 ![0, 0, 0] o slices_S1000x1000x3_S1000x1000x1_0_0_0) shapeCasts_S1000x1000x1_S1000x1000)
    (shapeCast S1000x1000 (extractStridedSlice S1000x1000x1 ![0, 0, 1] o slices_S1000x1000x3_S1000x1000x1_0_0_1) shapeCasts_S1000x1000x1_S1000x1000))
    (shapeCast S1000x1000 (extractStridedSlice S1000x1000x1 ![0, 0, 2] o slices_S1000x1000x3_S1000x1000x1_0_0_2) shapeCasts_S1000x1000x1_S1000x1000)

/-- The ratios of all pairs, of the volumes and the common volumes. -/
def quotients (v : FVec Ideal S1000 .f32) (c : FVec Ideal S1000x1000 .f32) : FVec Ideal S1000x1000 .f32 :=
  Host.divf c (maximumf (subf (addf (broadcastInDim S1000x1000 ![0, 1] bcast_S1000x1_S1000x1000_0_1 (broadcastInDim S1000x1 ![0] bcast_S1000_S1000x1_0 v))
      (broadcastInDim S1000x1000 ![0, 1] bcast_S1x1000_S1000x1000_0_1 (broadcastInDim S1x1000 ![1] bcast_S1000_S1x1000_1 v))) c)
    (broadcastInDim S1000x1000 ![] bcast_S_S1000x1000 (constant S_ .f32 0x358637BD#32)))

section Ratios
variable (b : FVec Ideal S1000x6 .f32) (C : ℕ → ℕ → EReal) (hb : ∀ (p : Fin 1000) (d : Fin 6), b (ix2 p d) = C p d)
include hb

theorem lows_apply (p : Fin 1000) (d : Fin 3) : lows b (ix2 p d) = C p d := by
  have e : lows b (ix2 p d) = b (ix2 p ⟨d, by omega⟩) := by
    pointwise [lows]
  rw [e, hb]

theorem highs_apply (p : Fin 1000) (d : Fin 3) : highs b (ix2 p d) = C p (d + 3) := by
  have e : highs b (ix2 p d) = b (ix2 p ⟨3 + d, by omega⟩) := by
    pointwise [highs]
  rw [e, hb]
  exact congrArg (C p) (Nat.add_comm 3 d)

theorem volumes_apply (p : Fin 1000) : volumes b (ix1 p) = volume C p := by
  have e : volumes b (ix1 p) = (highs b (ix2 p 0) - lows b (ix2 p 0)) * (highs b (ix2 p 1) - lows b (ix2 p 1)) * (highs b (ix2 p 2) - lows b (ix2 p 2)) := by
    unfold volumes
    generalize highs b = h
    generalize lows b = l
    pointwise
  rw [e]
  simp only [lows_apply b C hb, highs_apply b C hb]
  rfl

theorem overlaps_apply (p q : Fin 1000) (d : Fin 3) : overlaps b (ix3 p q d) = overlap C 0 p q d := by
  have e : overlaps b (ix3 p q d) = max (Ideal.ofBits .f32 0x00000000#32)
      (min (highs b (ix2 p d)) (highs b (ix2 q d)) - max (lows b (ix2 p d)) (lows b (ix2 q d))) := by
    unfold overlaps
    generalize highs b = h
    generalize lows b = l
    pointwise
  rw [e]
  simp only [lows_apply b C hb, highs_apply b C hb, Ideal.ofBits_zero_f32]
  rfl

theorem commons_apply (p q : Fin 1000) : commons (overlaps b) (ix2 p q) = common C 0 p q := by
  have e : ∀ o : FVec Ideal S1000x1000x3 .f32, commons o (ix2 p q) = o (ix3 p q 0) * o (ix3 p q 1) * o (ix3 p q 2) := by
    intro o
    pointwise [commons]
  rw [e]
  simp only [overlaps_apply b C hb]
  rfl

/-- The table of ratios. -/
theorem quotients_apply (p q : Fin 1000) : quotients (volumes b) (commons (overlaps b)) (ix2 p q) = ratio C 0 tiny p q := by
  have e : ∀ (v : FVec Ideal S1000 .f32) (c : FVec Ideal S1000x1000 .f32), quotients v c (ix2 p q)
      = Ideal.div (c (ix2 p q)) (max (v (ix1 p) + v (ix1 q) - c (ix2 p q)) tiny) := by
    intro v c
    pointwise [quotients]
  rw [e, commons_apply b C hb, volumes_apply b C hb, volumes_apply b C hb]
  rfl

end Ratios

end Cert.Proof.Ref

end
-- ==== Proof.RefRun.lean ====
/-
  The reference program's run, read at the buffers the claims speak of.

  `run_fold` (generated) says that every buffer ends at a fold of @main's operations. Here that fold is read at the
  argument (unchanged) and at the two results, and the values that the code before the loop leaves behind are carried
  over the loop, whose body does not write them.
-/
module

public import proofs.«01_k».proof.Proof.Gen.ReferenceIdeal.Run

@[expose] public section

set_option maxRecDepth 16384

noncomputable section

namespace Cert.Proof.Ref

open Idealize.ShloMosaic Idealize.ShloMosaic.TcCoe Idealize.SL.Sem
open Idealize.ShloMosaic.StableHlo
open Cert.ReferenceIdeal Cert.ReferenceIdeal.Gen Cert.ReferenceIdeal.Value

variable {F : FTy → Type} [FloatOps F]
variable (m : (ℓ : Loc nD τ sig) → Buf (Elt F) ℓ)

/-- A buffer that neither the loop's test nor its body writes holds, at every trip, what it held at the loop's entry. -/
theorem atK_keep (c : Dev nD) {r : Ref sig .tc} (h₁ : r ∉ condOps_W) (h₂ : r ∉ while0Ops0_W) :
    ∀ k, atK m k c (Proc.devRef .tc r) = entryContents preI m c (Proc.devRef .tc r)
  | 0 => rfl
  | k + 1 => by
    show after while0Ops0 (after condOps (atK m k c)) _ = _
    rw [after_of_writes_sub while0Ops0 _ while0Ops0_writes h₂, after_of_writes_sub condOps _ condOps_writes h₁]
    exact atK_keep c h₁ h₂ k

/-- The loop's test changes nothing that the program keeps. -/
theorem cond_keep (V : Valuation τ sig (Elt F)) {r : Ref sig .tc} (h₁ : r ∉ condOps_W) :
    after condOps V (Proc.devRef .tc r) = V (Proc.devRef .tc r) :=
  after_of_writes_sub condOps _ condOps_writes h₁

set_option maxHeartbeats 2000000 in
/-- The argument is as it was when the program ends. -/
theorem final_arg0 (c : Dev nD) :
    finalContents condOps preI bodyI postI 1000 m c (Proc.devRef .tc main_arg0) = m ((c.tc : Thread nD τ).loc main_arg0) := by
  have hpost : ∀ V : Valuation τ sig (Elt F), afterL postI V (Proc.devRef .tc main_arg0) = V (Proc.devRef .tc main_arg0) := by
    intro V
    simp only [postI, afterL_cons, afterL_nil]
    after_reads_simp
  have hpre : ∀ V : Valuation τ sig (Elt F), afterL preI V (Proc.devRef .tc main_arg0) = V (Proc.devRef .tc main_arg0) := by
    intro V
    simp only [preI, afterL_cons, afterL_nil]
    after_reads_simp
  rw [finalContents, hpost, cond_keep _ (by decide)]
  exact (atK_keep m c (by decide) (by decide) 1000).trans (hpre _)

end Cert.Proof.Ref

end
-- ==== Proof.RefTrip.lean ====
/-
The reference's loop: what one trip makes of the flags of the boxes still kept, and what all of them make.
-/
module

public import proofs.«01_k».proof.Proof.RefRun
public import proofs.«01_k».proof.Proof.Keep
public import Idealize.ShloMosaic.Lib.DynamicIndex

@[expose] public section

set_option maxRecDepth 16384

noncomputable section

namespace Cert.Proof.Ref

open Idealize.ShloMosaic
open Cert.ReferenceIdeal Cert.ReferenceIdeal.Gen

/-- A row of the table of ratios. -/
def ratioRow (R : FVec Ideal S1000x1000 .f32) (k : ℕ) : FVec Ideal S1000 .f32 :=
  shapeCast S1000 (Host.dynamicSlice S1x1000 R (fun a => (((![select (cmpi .slt (constantI S_ 32 (BitVec.ofNat 32 k)) (constantI S_ 32 0#32)) (addi (constantI S_ 32 (BitVec.ofNat 32 k)) (constantI S_ 32 1000#32)) (constantI S_ 32 (BitVec.ofNat 32 k)), select (cmpi .slt (constantI S_ 32 0#32) (constantI S_ 32 0#32)) (addi (constantI S_ 32 0#32) (constantI S_ 32 1000#32)) (constantI S_ 32 0#32)] : Fin 2 → IVec S_ 32)) a (Shape.Idx.first h_S_)).toInt) sliceFits_S1000x1000_S1x1000) shapeCasts_S1x1000_S1000

/-- One of the flags. -/
def oneFlag (K : IVec S1000 1) (k : ℕ) : IVec S_ 1 :=
  shapeCast S_ (Host.dynamicSlice S1 K (fun a => (((![select (cmpi .slt (constantI S_ 32 (BitVec.ofNat 32 k)) (constantI S_ 32 0#32)) (addi (constantI S_ 32 (BitVec.ofNat 32 k)) (constantI S_ 32 1000#32)) (constantI S_ 32 (BitVec.ofNat 32 k))] : Fin 1 → IVec S_ 32)) a (Shape.Idx.first h_S_)).toInt) sliceFits_S1000_S1) shapeCasts_S1_S_

theorem ratioRow_apply (R : FVec Ideal S1000x1000 .f32) (k : Fin 1000) (j : Fin 1000) : ratioRow R k (ix1 j) = R (ix2 k j) := by
  unfold ratioRow
  rw [Host.dynamicSlice_eq_extractStridedSlice S1x1000 R _ ![k, 0] _ ⟨rfl, fun a => by fin_cases a <;> first | (show (k : ℕ) + 1 ≤ 1000; omega) | (show 0 + 1000 ≤ 1000; omega)⟩ ?_]
  · pointwise
    done
  · intro a
    fin_cases a
    · exact toInt_wrap_ofNat k (by omega)
    · exact toInt_wrap_ofNat (s := S_) (d := constantI S_ 32 1000#32) (i := Shape.Idx.first h_S_) 0 (by omega)

theorem oneFlag_apply (K : IVec S1000 1) (k : Fin 1000) (j : S_.Idx) : oneFlag K k j = K (ix1 k) := by
  unfold oneFlag
  rw [Host.dynamicSlice_eq_extractStridedSlice S1 K _ ![k] _ ⟨rfl, fun a => by fin_cases a; show (k : ℕ) + 1 ≤ 1000; omega⟩ ?_]
  · pointwise
    done
  · intro a
    fin_cases a
    exact toInt_wrap_ofNat k (by omega)

/-- The flags after one trip. -/
def tripFlags (R : FVec Ideal S1000x1000 .f32) (K : IVec S1000 1) (k : ℕ) : IVec S1000 1 :=
  andi K (noti (andi (andi (cmpf .ogt (ratioRow R k) (broadcastInDim S1000 ![] bcast_S_S1000 (constant S_ .f32 0x3F333333#32)))
    (cmpi .sgt (iotaInDim S1000 32 0) (broadcastInDim S1000 ![] bcast_S_S1000 (constantI S_ 32 (BitVec.ofNat 32 k)))))
    (broadcastInDim S1000 ![] bcast_S_S1000 (oneFlag K k))))

theorem sgt_small (a b : ℕ) (ha : a < 1000) (hb : b < 1000) :
    IntOp.cmpi .sgt (BitVec.ofNat 32 a) (BitVec.ofNat 32 b) = BitVec.ofBool (decide (b < a)) := by
  show BitVec.ofBool (BitVec.slt (BitVec.ofNat 32 b) (BitVec.ofNat 32 a)) = _
  congr 1
  rw [BitVec.slt_eq_decide, toInt_ofNat_of_lt (by omega), toInt_ofNat_of_lt (by omega)]
  simp

open scoped Classical in
theorem tripFlags_apply (R : FVec Ideal S1000x1000 .f32) (f : ℕ → ℕ → EReal) (hR : ∀ i j : Fin 1000, R (ix2 i j) = f i j)
    (K : IVec S1000 1) (p : ℕ → Prop) (hK : ∀ j : Fin 1000, K (ix1 j) = BitVec.ofBool (decide (p j))) (k j : Fin 1000) :
    tripFlags R K k (ix1 j) = BitVec.ofBool (decide (p j ∧ ¬ (over f k j ∧ (k : ℕ) < j ∧ p k))) := by
  have e : tripFlags R K k (ix1 j) = IntOp.andi (K (ix1 j)) (~~~ IntOp.andi (IntOp.andi
      (BitVec.ofBool (decide (Ideal.ofBits .f32 0x3F333333#32 < ratioRow R k (ix1 j)))) (IntOp.cmpi .sgt (BitVec.ofNat 32 j) (BitVec.ofNat 32 k)))
      (oneFlag K k (Idealize.ShloMosaic.ix0))) := by
    pointwise [tripFlags]
  have e2 : (Ideal.ofBits .f32 0x3F333333#32 < f k j) = over f k j := rfl
  rw [e, ratioRow_apply, oneFlag_apply, hR, hK, hK, sgt_small _ _ j.2 k.2, andi_bool, andi_bool]
  have e3 : ∀ b : Bool, ~~~ BitVec.ofBool b = BitVec.ofBool (!b) := by decide
  rw [e3, andi_bool, Bool.decide_and, decide_not, Bool.decide_and, Bool.decide_and]
  congr 3
  rw [Bool.and_assoc]
  congr 1
  exact decide_eq_decide.mpr Iff.rfl

open Idealize.ShloMosaic.TcCoe Idealize.ShloMosaic.StableHlo Cert.ReferenceIdeal.Value

open scoped Classical in
/-- What the loop's carried buffers hold before trip `k`. -/
structure State (f : ℕ → ℕ → EReal) (st : ℕ → Prop) (V : Valuation τ sig (Elt Ideal)) (k : ℕ) : Prop where
  ratios : ∀ i j : Fin 1000, (V (Proc.devRef .tc main_v48_0) : S1000x1000.Idx → EReal) (ix2 i j) = f i j
  numbers : (V (Proc.devRef .tc main_v48_1) : IVec S1000 32) = iotaInDim S1000 32 0
  turn : (V (Proc.devRef .tc main_v48_3) : IVec S_ 32) = constantI S_ 32 (BitVec.ofNat 32 k)
  flags : ∀ j : Fin 1000, (V (Proc.devRef .tc main_v48_4) : IVec S1000 1) (ix1 j) = BitVec.ofBool (decide (greedy (over f) st k j))

theorem next_turn (k : ℕ) : addi (constantI S_ 32 (BitVec.ofNat 32 k)) (constantI S_ 32 1#32) = constantI S_ 32 (BitVec.ofNat 32 (k + 1)) := by
  funext j
  show BitVec.ofNat 32 k + 1#32 = BitVec.ofNat 32 (k + 1)
  rw [BitVec.ofNat_add]

/-- The generated step of the flags is `tripFlags`. -/
theorem step_flags (V : Valuation τ sig (Elt Ideal)) (k : ℕ)
    (h1 : (V (Proc.devRef .tc main_v48_1) : IVec S1000 32) = iotaInDim S1000 32 0)
    (h3 : (V (Proc.devRef .tc main_v48_3) : IVec S_ 32) = constantI S_ 32 (BitVec.ofNat 32 k)) :
    step_main_v48_4 V = tripFlags (V (Proc.devRef .tc main_v48_0)) (V (Proc.devRef .tc main_v48_4)) k := by
  unfold step_main_v48_4 res_main_while0b_v52
  rw [h1, h3]
  rfl

/-- One trip more. -/
theorem state_next (f : ℕ → ℕ → EReal) (st : ℕ → Prop) (V : Valuation τ sig (Elt Ideal)) (k : ℕ) (hk : k < 1000) (h : State f st V k) :
    State f st (STEP V) (k + 1) where
  ratios := by rw [STEP_main_v48_0]; exact h.ratios
  numbers := by rw [STEP_main_v48_1]; exact h.numbers
  turn := by
    rw [STEP_main_v48_3]
    unfold step_main_v48_3
    rw [h.turn]
    exact next_turn k
  flags := by
    intro j
    rw [STEP_main_v48_4, step_flags V k h.numbers h.turn]
    exact (tripFlags_apply _ f h.ratios _ (greedy (over f) st k) h.flags ⟨k, hk⟩ j).trans (congrArg BitVec.ofBool (decide_eq_decide.mpr Iff.rfl))

/-- The state after any number of trips. -/
theorem state_at (f : ℕ → ℕ → EReal) (st : ℕ → Prop) (V : Valuation τ sig (Elt Ideal)) (h : State f st V 0) (k : ℕ) (hk : k ≤ 1000) :
    State f st (STEP^[k] V) k := by
  induction k with
  | zero => exact h
  | succ k ih =>
    rw [Function.iterate_succ_apply']
    exact state_next f st _ k (by omega) (ih (by omega))

end Cert.Proof.Ref

end
-- ==== Proof.RefRead.lean ====
/-
The reference's stretches of operations before and after its loop, each read at the buffers it hands on.
-/
module

public import proofs.«01_k».proof.Proof.RefTable
public import proofs.«01_k».proof.Proof.RefTrip

@[expose] public section

set_option maxRecDepth 16384

noncomputable section

namespace Cert.Proof.Ref

open Idealize.ShloMosaic Idealize.ShloMosaic.TcCoe
open Idealize.ShloMosaic.StableHlo
open Cert.ReferenceIdeal Cert.ReferenceIdeal.Gen Cert.ReferenceIdeal.Value

variable (V : Valuation τ sig (Elt Ideal))

/-- The scores of the table. -/
def scoreRow (A : FVec Ideal S1024x8 .f32) : FVec Ideal S1000 .f32 :=
  shapeCast S1000 (extractStridedSlice S1000x1 ![0, 6] A slices_S1024x8_S1000x1_0_6) shapeCasts_S1000x1_S1000

/-- Which scores are positive. -/
def validRow (s : FVec Ideal S1000 .f32) : IVec S1000 1 :=
  cmpf (F := Ideal) (φ := .f32) .ogt s (broadcastInDim S1000 ![] bcast_S_S1000 (constant S_ .f32 0x00000000#32))

/-- The scores where flagged, minus infinity elsewhere. -/
def maskRow (K : IVec S1000 1) (s : FVec Ideal S1000 .f32) : FVec Ideal S1000 .f32 :=
  select K s (broadcastInDim S1000 ![] bcast_S_S1000 (constant (F := Ideal) S_ .f32 0xFF800000#32))

theorem scoreRow_apply (A : FVec Ideal S1024x8 .f32) (p : Fin 1000) : scoreRow A (ix1 p) = A (ix2 ⟨p, by omega⟩ 6) := by
  pointwise [scoreRow]

open scoped Classical in
theorem validRow_apply (s : FVec Ideal S1000 .f32) (p : Fin 1000) : validRow s (ix1 p) = BitVec.ofBool (decide (0 < s (ix1 p))) := by
  have e : validRow s (ix1 p) = Ideal.cmp .ogt (s (ix1 p)) (Ideal.ofBits .f32 0x00000000#32) := by
    pointwise [validRow]
  rw [e, Ideal.ofBits_zero_f32]
  exact congrArg BitVec.ofBool (decide_eq_decide.mpr Iff.rfl)

theorem maskRow_apply (K : IVec S1000 1) (s : FVec Ideal S1000 .f32) (p : Fin 1000) :
    maskRow K s (ix1 p) = Scalar.select (K (ix1 p)) (s (ix1 p)) ⊥ := by
  have e : maskRow K s (ix1 p) = Scalar.select (K (ix1 p)) (s (ix1 p)) (Ideal.ofBits .f32 0xFF800000#32) := by
    pointwise [maskRow]
  rw [e, word_neg_inf]

theorem read_boxes : (after hostOps0 V (Proc.devRef .tc main_v0) : FVec Ideal S1000x6 .f32)
    = extractStridedSlice S1000x6 ![0, 0] (V (Proc.devRef .tc main_arg0) : FVec Ideal S1024x8 .f32) slices_S1024x8_S1000x6_0_0 := by
  after_reads_simp

theorem read_values : (after hostOps0 V (Proc.devRef .tc main_values) : FVec Ideal S1000 .f32)
    = (Host.topK S1000 0 (FloatOps.cmpfTotal (F := Ideal) (φ := .f32) .gt) (scoreRow (V (Proc.devRef .tc main_arg0))) sliceFits_S1000_S1000).1 := by
  after_reads_simp
  rfl

theorem read_indices : (after hostOps0 V (Proc.devRef .tc main_indices) : IVec S1000 32)
    = (Host.topK S1000 0 (FloatOps.cmpfTotal (F := Ideal) (φ := .f32) .gt) (scoreRow (V (Proc.devRef .tc main_arg0))) sliceFits_S1000_S1000).2 := by
  after_reads_simp
  rfl

set_option maxHeartbeats 1000000 in
theorem read_taken : (after hostOps0_1 V (Proc.devRef .tc main_v3) : FVec Ideal S1000x6 .f32)
    = takeRows (V (Proc.devRef .tc main_v0)) (V (Proc.devRef .tc main_indices)) := by
  after_reads_simp
  rfl

theorem read_clipped : (after hostOps0_3 (after hostOps0_2 V) (Proc.devRef .tc main_v4) : FVec Ideal S1000x6 .f32)
    = clipTable (V (Proc.devRef .tc main_v3)) := by
  after_reads_simp
  rfl

theorem read_valid : (after hostOps0_4 V (Proc.devRef .tc main_v6) : IVec S1000 1)
    = validRow (V (Proc.devRef .tc main_values)) := by
  after_reads_simp
  rfl

set_option maxHeartbeats 1000000 in
theorem read_volumes : (after hostOps0_4 V (Proc.devRef .tc main_v17) : FVec Ideal S1000 .f32) = volumes (V (Proc.devRef .tc main_v4)) := by
  after_reads_simp
  rfl

set_option maxHeartbeats 1000000 in
theorem read_overlaps : (after hostOps0_5 (after hostOps0_4 V) (Proc.devRef .tc main_v29) : FVec Ideal S1000x1000x3 .f32)
    = overlaps (V (Proc.devRef .tc main_v4)) := by
  after_reads_simp
  rfl

set_option maxHeartbeats 1000000 in
theorem read_quotients : (after hostOps0_6 V (Proc.devRef .tc main_v48_0) : FVec Ideal S1000x1000 .f32)
    = quotients (V (Proc.devRef .tc main_v17)) (commons (V (Proc.devRef .tc main_v29))) := by
  after_reads_simp
  rfl

theorem read_numbers : (after hostOps0_6 V (Proc.devRef .tc main_v48_1) : IVec S1000 32) = iotaInDim S1000 32 0 := by
  after_reads_simp
  rfl

theorem read_turn : (after hostOps0_6 V (Proc.devRef .tc main_v48_3) : IVec S_ 32) = constantI S_ 32 0#32 := by
  after_reads_simp
  rfl

theorem read_flags : (after hostOps0_6 V (Proc.devRef .tc main_v48_4) : IVec S1000 1) = (V (Proc.devRef .tc main_v6) : IVec S1000 1) := by
  after_reads_simp
  rfl

/-- The masked scores. -/
theorem read_masked : (after hostOps0_8 (after hostOps0_7 V) (Proc.devRef .tc main_v49) : FVec Ideal S1000 .f32)
    = maskRow (V (Proc.devRef .tc main_v48_4)) (V (Proc.devRef .tc main_values)) := by
  after_reads_simp
  rfl

theorem read_final : (after hostOps0_9 V (Proc.devRef .tc main_values_6) : FVec Ideal S1000 .f32)
    = (Host.topK S1000 0 (FloatOps.cmpfTotal (F := Ideal) (φ := .f32) .gt) (V (Proc.devRef .tc main_v49)) sliceFits_S1000_S1000).1 := by
  after_reads_simp

theorem read_places : (after hostOps0_9 V (Proc.devRef .tc main_indices_7) : IVec S1000 32)
    = (Host.topK S1000 0 (FloatOps.cmpfTotal (F := Ideal) (φ := .f32) .gt) (V (Proc.devRef .tc main_v49)) sliceFits_S1000_S1000).2 := by
  after_reads_simp

theorem keep_scores : after hostOps0_10 V (Proc.devRef .tc main_values_6) = V (Proc.devRef .tc main_values_6) := by
  after_reads_simp

theorem keep_boxes : after hostOps0_9 (after hostOps0_8 (after hostOps0_7 V)) (Proc.devRef .tc main_v4) = V (Proc.devRef .tc main_v4) := by
  after_reads_simp

set_option maxHeartbeats 1000000 in
theorem read_proposals : (after hostOps0_10 V (Proc.devRef .tc main_v50) : FVec Ideal S1000x6 .f32)
    = takeRows (V (Proc.devRef .tc main_v4)) (V (Proc.devRef .tc main_indices_7)) := by
  after_reads_simp
  rfl

end Cert.Proof.Ref

end
-- ==== Proof.TopK.lean ====
/-
What `top_k` returns: the positions of a table, taken by decreasing value and, where values are equal, by increasing
position; and how many positions precede a given one.
-/
module

public import Idealize.ShloMosaic.Lib.SortFacts
public import proofs.«01_k».proof.Proof.Spec

@[expose] public section

set_option maxRecDepth 8000

noncomputable section

namespace Cert.Proof

open Idealize.ShloMosaic

/-- Position `k` precedes position `i`: a greater value, or an equal one further to the left. -/
def precedes (f : ℕ → EReal) (k i : ℕ) : Prop := f i < f k ∨ (f k = f i ∧ k < i)

theorem precedes_trans {f : ℕ → EReal} {a b c : ℕ} (h : precedes f a b) (h' : precedes f b c) : precedes f a c := by
  rcases h with h | ⟨h, hi⟩ <;> rcases h' with h' | ⟨h', hi'⟩
  · exact Or.inl (h'.trans h)
  · exact Or.inl (h' ▸ h)
  · exact Or.inl (h ▸ h')
  · exact Or.inr ⟨h.trans h', hi.trans hi'⟩

theorem precedes_irrefl (f : ℕ → EReal) (a : ℕ) : ¬ precedes f a a := by
  rintro (h | ⟨_, h⟩)
  · exact lt_irrefl _ h
  · exact lt_irrefl _ h

theorem precedes_asymm {f : ℕ → EReal} {a b : ℕ} (h : precedes f a b) : ¬ precedes f b a :=
  fun h' => precedes_irrefl f a (precedes_trans h h')

/-- The comparison the sort uses: the greater value first. -/
def greater {n : ℕ} (f : ℕ → EReal) (k k' : Fin n) : Bool := Ideal.cmpTotal .gt (f k) (f k') == 1#1

theorem greater_iff {n : ℕ} (f : ℕ → EReal) (k k' : Fin n) : greater f k k' = true ↔ f k' < f k := by
  unfold greater Ideal.cmpTotal
  show (BitVec.ofBool (decide (f k' < f k)) == 1#1) = true ↔ _
  by_cases h : f k' < f k <;> simp [h]

/-- Inserting a position that lies to the left of a sorted list's positions keeps the list sorted. -/
theorem insert_sorted {n : ℕ} (f : ℕ → EReal) (a : Fin n) (l : List (Fin n)) (ha : ∀ b ∈ l, a < b)
    (hl : l.Pairwise fun b c : Fin n => precedes f b c) : (insertBefore (greater f) a l).Pairwise fun b c : Fin n => precedes f b c := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore _ a l).mem_iff.mp hc) with rfl | hc'
      · exact Or.inl ((greater_iff f _ _).mp h)
      · exact hl.1 c hc'
    · rename_i h
      have hab : precedes f a b := by
        rcases lt_or_eq_of_le (not_lt.mp fun h' => h ((greater_iff f b a).mpr h')) with h' | h'
        · exact Or.inl h'
        · exact Or.inr ⟨h'.symm, ha b (List.mem_cons_self ..)⟩
      refine List.pairwise_cons.mpr ⟨fun c hc => ?_, List.pairwise_cons.mpr hl⟩
      rcases List.mem_cons.mp hc with rfl | hc'
      · exact hab
      · exact precedes_trans hab (hl.1 c hc')

/-- A stable sort of increasing positions puts each before those it precedes. -/
theorem stable_sorted {n : ℕ} (f : ℕ → EReal) (l : List (Fin n)) (hl : l.Pairwise fun a b : Fin n => a < b) :
    (stableSort (greater f) l).Pairwise fun b c : Fin n => precedes f b c := by
  induction l with
  | nil => exact List.Pairwise.nil
  | cons a l ih =>
    rw [List.pairwise_cons] at hl
    unfold stableSort
    exact insert_sorted f a _ (fun b hb => hl.1 b ((perm_stableSort _ l).mem_iff.mp hb)) (ih hl.2)

/-- Of two results the earlier one's position precedes the later one's. -/
theorem sortedFrom_precedes {n : ℕ} (f : ℕ → EReal) (i j : Fin n) (hij : i < j) :
    precedes f (sortedFrom (greater f) i) (sortedFrom (greater f) j) := by
  have hp : ∀ a b : Fin (sortPositions n (greater f)).length, a < b →
      precedes f ((sortPositions n (greater f)).get a) ((sortPositions n (greater f)).get b) :=
    List.pairwise_iff_get.mp (stable_sorted f (List.finRange n) (List.pairwise_lt_finRange n))
  unfold sortedFrom
  exact hp _ _ hij

theorem sortedFrom_precedes_iff {n : ℕ} (f : ℕ → EReal) (p q : Fin n) :
    precedes f (sortedFrom (greater f) p) (sortedFrom (greater f) q) ↔ p < q := by
  refine ⟨fun h => ?_, sortedFrom_precedes f p q⟩
  by_contra hn
  rcases lt_or_eq_of_le (not_lt.mp hn) with h' | h'
  · exact precedes_asymm h (sortedFrom_precedes f q p h')
  · exact precedes_irrefl f _ (h' ▸ h)

/-- The positions `top_k` returns, in order. -/
def topPos (f : ℕ → EReal) : Fin 1000 → Fin 1000 := sortedFrom (greater f)

theorem topPos_surjective (f : ℕ → EReal) : Function.Surjective (topPos f) := sortedFrom_surjective _

theorem topPos_injective (f : ℕ → EReal) : Function.Injective (topPos f) := sortedFrom_injective _

theorem topPos_precedes (f : ℕ → EReal) (p q : Fin 1000) : precedes f (topPos f p) (topPos f q) ↔ p < q :=
  sortedFrom_precedes_iff f p q

open scoped Classical in
theorem count_before {n : ℕ} (f : ℕ → EReal) (s : Fin n → Fin n) (inj : Function.Injective s) (surj : Function.Surjective s)
    (hs : ∀ p q, precedes f (s p) (s q) ↔ p < q) (p : Fin n) :
    ((Finset.range n).filter (fun k => precedes f k (s p))).card = p := by
  have e : (Finset.range n).filter (fun k => precedes f k (s p))
      = (Finset.univ.filter (fun q : Fin n => q < p)).image (fun q => ((s q : Fin n) : ℕ)) := by
    ext k
    rw [Finset.mem_filter, Finset.mem_image]
    constructor
    · rintro ⟨hk, hp⟩
      obtain ⟨q, hq⟩ := surj ⟨k, Finset.mem_range.mp hk⟩
      have e : ((s q : Fin n) : ℕ) = k := congrArg Fin.val hq
      exact ⟨q, Finset.mem_filter.mpr ⟨Finset.mem_univ _, (hs q p).mp (e.symm ▸ hp)⟩, e⟩
    · rintro ⟨q, hq, rfl⟩
      exact ⟨Finset.mem_range.mpr (s q).2, (hs q p).mpr (Finset.mem_filter.mp hq).2⟩
  rw [e, Finset.card_image_of_injective _ (fun a b h => inj (Fin.ext h))]
  have e2 : (Finset.univ.filter (fun q : Fin n => q < p)) = Finset.Iio p := by ext q; simp
  rw [e2, Fin.card_Iio]

open scoped Classical in
/-- As many positions precede a result's as there are results before it. -/
theorem topPos_count (f : ℕ → EReal) (p : Fin 1000) :
    ((Finset.range 1000).filter (fun k => precedes f k (topPos f p))).card = p :=
  count_before f (topPos f) (topPos_injective f) (topPos_surjective f) (topPos_precedes f) p

/-- The shape of a row of 1000 numbers. -/
abbrev Row : Shape := ⟨1, ![1000]⟩

theorem ofFin_eq_ix1 (k : Fin 1000) : (Shape.Idx.ofFin k : Row.Idx) = ix1 k := by
  funext a; apply Fin.ext; fin_cases a; rfl

theorem topK_source (x : Row.Idx → EReal) (f : ℕ → EReal) (hx : ∀ k : Fin 1000, x (ix1 k) = f k) (p : Fin 1000) :
    sortedFrom (fun k k' : Fin 1000 => FloatOps.cmpfTotal (F := Ideal) (φ := .f32) .gt (x (Shape.Idx.ofFin k)) (x (Shape.Idx.ofFin k')) == 1#1) p
      = topPos f p := by
  unfold topPos
  refine congrArg (fun R => sortedFrom R p) ?_
  funext k k'
  rw [ofFin_eq_ix1, ofFin_eq_ix1, hx, hx]
  rfl

/-- The values `top_k` returns. -/
theorem topK_value (x : Row.Idx → EReal) (f : ℕ → EReal) (hx : ∀ k : Fin 1000, x (ix1 k) = f k) (h : Row.Slices (fun _ => 0) Row)
    (p : Fin 1000) : (Host.topK Row 0 (FloatOps.cmpfTotal (F := Ideal) (φ := .f32) .gt) x h).1 (ix1 p) = f (topPos f p) := by
  have e : (Host.topK Row 0 (FloatOps.cmpfTotal (F := Ideal) (φ := .f32) .gt) x h).1 (ix1 p)
      = x (Shape.Idx.ofFin (sortedFrom (fun k k' : Fin 1000 => FloatOps.cmpfTotal (F := Ideal) (φ := .f32) .gt (x (Shape.Idx.ofFin k)) (x (Shape.Idx.ofFin k')) == 1#1) p)) := by
    unfold Host.topK Host.sort2 extractStridedSlice
    simp
  rw [e, topK_source x f hx, ofFin_eq_ix1, hx]

/-- The positions `top_k` returns. -/
theorem topK_index (x : Row.Idx → EReal) (f : ℕ → EReal) (hx : ∀ k : Fin 1000, x (ix1 k) = f k) (h : Row.Slices (fun _ => 0) Row)
    (p : Fin 1000) : (Host.topK Row 0 (FloatOps.cmpfTotal (F := Ideal) (φ := .f32) .gt) x h).2 (ix1 p) = BitVec.ofNat 32 (topPos f p : Fin 1000) := by
  have e : (Host.topK Row 0 (FloatOps.cmpfTotal (F := Ideal) (φ := .f32) .gt) x h).2 (ix1 p)
      = BitVec.ofNat 32 (sortedFrom (fun k k' : Fin 1000 => FloatOps.cmpfTotal (F := Ideal) (φ := .f32) .gt (x (Shape.Idx.ofFin k)) (x (Shape.Idx.ofFin k')) == 1#1) p : Fin 1000) := by
    unfold Host.topK Host.sort2 extractStridedSlice
    simp [iotaInDim]
    done
  rw [e, topK_source x f hx]

end Cert.Proof

end
-- ==== Proof.Places.lean ====
/-
The sorted rows and the places of the kept rows, for candidates that come from a selection: they are the positions that
`top_k` returns, of the scores and of the scores masked by what is kept.
-/
module

public import proofs.«01_k».proof.Proof.TopK
public import proofs.«01_k».proof.Proof.KernelRun

@[expose] public section

set_option maxRecDepth 8000

noncomputable section

namespace Cert.Proof

open Idealize.ShloMosaic
open scoped Classical

/-- What a selection leaves: 1000 rows of a score above -1, in increasing order of column 7, and padding rows of no positive score. -/
structure Selected (X : ℕ → ℕ → EReal) : Prop where
  score : ∀ i, i < 1000 → (-1 : EReal) < X i 6
  order : ∀ i, i < 999 → X i 7 < X (i + 1) 7
  pad : ∀ i, 1000 ≤ i → i < 1024 → X i 6 ≤ 0

/-- Which row of the table is the `p`-th of the sorted rows. -/
def rowAt (X : ℕ → ℕ → EReal) : Fin 1000 → Fin 1000 := topPos (fun k => X k 6)

/-- The scores of the sorted rows, minus infinity where the row is not kept. -/
def maskedScore (X : ℕ → ℕ → EReal) (q : ℕ) : EReal := if kept X q then boxes X q 6 else ⊥

/-- Which sorted row is the `p`-th of the result. -/
def outAt (X : ℕ → ℕ → EReal) : Fin 1000 → Fin 1000 := topPos (maskedScore X)

variable {X : ℕ → ℕ → EReal} (hX : Selected X)
include hX

theorem order_lt (i n : ℕ) (h : i + n + 1 < 1000) : X i 7 < X (i + n + 1) 7 := by
  induction n with
  | zero => exact hX.order i (by omega)
  | succ n ih => exact (ih (by omega)).trans (hX.order (i + n + 1) (by omega))

theorem order_iff {i k : ℕ} (hi : i < 1000) (hk : k < 1000) : X k 7 < X i 7 ↔ k < i := by
  rcases lt_trichotomy k i with h | h | h
  · obtain ⟨n, rfl⟩ := Nat.exists_eq_add_of_lt h
    exact iff_of_true (order_lt hX k n hi) h
  · subst h; exact iff_of_false (lt_irrefl _) (lt_irrefl _)
  · obtain ⟨n, rfl⟩ := Nat.exists_eq_add_of_lt h
    exact iff_of_false (order_lt hX i n hk).asymm (by omega)

/-- A real row is ranked by the real rows that precede it. -/
theorem rank_real {i : ℕ} (hi : i < 1000) :
    rank X i = ((Finset.range 1000).filter (fun k => precedes (fun k => X k 6) k i)).card := by
  unfold rank
  congr 1
  ext k
  rw [Finset.mem_filter, Finset.mem_filter, Finset.mem_range, Finset.mem_range]
  unfold before scoreOf orderOf
  rw [if_pos hi, if_pos hi]
  by_cases hk : k < 1000
  · rw [if_pos hk, if_pos hk, order_iff hX hi hk]
    exact ⟨fun h => ⟨hk, h.2⟩, fun h => ⟨by omega, h.2⟩⟩
  · rw [if_neg hk, if_neg hk]
    refine iff_of_false ?_ (fun h => hk h.1)
    rintro ⟨_, h | ⟨h, _⟩⟩
    · exact (hX.score i hi).asymm h
    · exact (hX.score i hi).ne h

/-- A padding row comes after every real row. -/
theorem rank_pad {i : ℕ} (hi : 1000 ≤ i) : 1000 ≤ rank X i := by
  unfold rank
  refine le_of_eq_of_le (Finset.card_range 1000).symm (Finset.card_le_card fun k hk => ?_)
  have hk := Finset.mem_range.mp hk
  refine Finset.mem_filter.mpr ⟨Finset.mem_range.mpr (by omega), Or.inl ?_⟩
  unfold scoreOf
  rw [if_neg (by omega), if_pos hk]
  exact hX.score _ hk

theorem rank_rowAt (p : Fin 1000) : rank X (rowAt X p) = p := by
  rw [rank_real hX (rowAt X p).2]
  exact topPos_count _ p

theorem rank_eq (p : Fin 1000) {i : ℕ} (hi : i < 1024) : (p : ℕ) = rank X i ↔ i = rowAt X p := by
  constructor
  · intro h
    by_cases hr : i < 1000
    · obtain ⟨q, hq⟩ := topPos_surjective (fun k => X k 6) ⟨i, hr⟩
      have e : ((rowAt X q : Fin 1000) : ℕ) = i := congrArg Fin.val hq
      rw [← e, rank_rowAt hX] at h
      have hp : p = q := Fin.ext h
      subst hp
      exact e.symm
    · have := rank_pad hX (i := i) (by omega)
      have := p.2
      omega
  · intro h
    rw [h]
    exact (rank_rowAt hX p).symm

/-- The sorted rows. -/
theorem sorted_real (p : Fin 1000) (d : ℕ) : sorted X p d = X (rowAt X p) d := by
  unfold sorted
  rw [Finset.sum_eq_single ((rowAt X p : Fin 1000) : ℕ)]
  · rw [if_pos (rank_rowAt hX p).symm, one_mul]
  · intro i hi hne
    rw [if_neg (fun h => hne ((rank_eq hX p (Finset.mem_range.mp hi)).mp h)), zero_mul]
  · intro h
    exact absurd (Finset.mem_range.mpr (lt_trans (rowAt X p).2 (by norm_num))) h

/-- After the real rows no score is positive. -/
theorem sorted_pad {p : ℕ} (hp : 1000 ≤ p) : sorted X p 6 ≤ 0 := by
  unfold sorted
  refine Finset.sum_nonpos fun i hi => ?_
  by_cases h : p = rank X i
  · rw [if_pos h, one_mul]
    by_cases hr : i < 1000
    · obtain ⟨q, hq⟩ := topPos_surjective (fun k => X k 6) ⟨i, hr⟩
      have e : ((rowAt X q : Fin 1000) : ℕ) = i := congrArg Fin.val hq
      rw [← e, rank_rowAt hX] at h
      have := q.2
      omega
    · exact hX.pad i (by omega) (Finset.mem_range.mp hi)
  · rw [if_neg h, zero_mul]

theorem boxes_score (p : Fin 1000) : boxes X p 6 = X (rowAt X p) 6 := by
  unfold boxes clipped
  rw [if_neg (by norm_num), sorted_real hX]

theorem boxes_coord (p : Fin 1000) {d : ℕ} (hd : d < 6) : boxes X p d = min sceneHi (max sceneLo (X (rowAt X p) d)) := by
  unfold boxes clipped
  rw [if_pos hd, sorted_real hX]

/-- The scores of the sorted rows do not increase. -/
theorem boxes_anti {q k : ℕ} (h : q ≤ k) (hk : k < 1000) : boxes X k 6 ≤ boxes X q 6 := by
  rcases lt_or_eq_of_le h with h | rfl
  · have e := (topPos_precedes (fun k => X k 6) ⟨q, h.trans hk⟩ ⟨k, hk⟩).mpr h
    rw [boxes_score hX ⟨q, h.trans hk⟩, boxes_score hX ⟨k, hk⟩]
    rcases e with e | ⟨e, _⟩
    · exact e.le
    · exact e.symm.le
  · exact le_rfl

omit hX in
theorem greedy_start (ov : ℕ → ℕ → Prop) (st : ℕ → Prop) (t j : ℕ) (h : greedy ov st t j) : st j := by
  induction t with
  | zero => exact h
  | succ t ih => exact ih h.1

omit hX in
/-- What is kept has a positive score. -/
theorem kept_score {q : ℕ} (h : kept X q) : 0 < boxes X q 6 := greedy_start _ _ _ _ h

/-- Only real rows are kept. -/
theorem kept_real {q : ℕ} (h : kept X q) : q < 1000 := by
  by_contra hq
  have h0 := kept_score h
  unfold boxes clipped at h0
  rw [if_neg (by norm_num)] at h0
  exact absurd (sorted_pad hX (not_lt.mp hq)) (not_le.mpr h0)

omit hX in
/-- Of the real rows the first 1000 turns decide. -/
theorem kept_turns {q : ℕ} (hq : q < 1000) :
    kept X q ↔ greedy (over (ratios X)) (fun q => 0 < boxes X q 6) 1000 q := by
  unfold kept
  rw [greedy_settled _ _ q 1024 (by omega), greedy_settled _ _ q 1000 (by omega)]

omit hX in
theorem masked_kept {q : ℕ} (h : kept X q) : maskedScore X q = boxes X q 6 := if_pos h

omit hX in
theorem masked_not {q : ℕ} (h : ¬ kept X q) : maskedScore X q = ⊥ := if_neg h

omit hX in
theorem bot_lt_masked {q : ℕ} (h : kept X q) : ⊥ < maskedScore X q := by
  rw [masked_kept h]
  exact lt_of_le_of_lt bot_le (kept_score h)

theorem precedes_kept {q k : ℕ} (hq : kept X q) (hk : k < 1000) : precedes (maskedScore X) k q ↔ k < q ∧ kept X k := by
  have hq' := kept_real hX hq
  constructor
  · rintro (h | ⟨h, hlt⟩)
    · have hkk : kept X k := by
        by_contra hn
        rw [masked_not hn] at h
        exact absurd h (not_lt.mpr bot_le)
      rw [masked_kept hq, masked_kept hkk] at h
      refine ⟨?_, hkk⟩
      by_contra hn
      exact absurd (boxes_anti hX (not_lt.mp hn) hk) (not_le.mpr h)
    · refine ⟨hlt, ?_⟩
      by_contra hn
      rw [masked_not hn] at h
      exact absurd (bot_lt_masked hq) (by rw [← h]; exact lt_irrefl _)
  · rintro ⟨hlt, hkk⟩
    have h := boxes_anti hX hlt.le hq'
    rw [← masked_kept hq, ← masked_kept hkk] at h
    rcases lt_or_eq_of_le h with h | h
    · exact Or.inl h
    · exact Or.inr ⟨h.symm, hlt⟩

omit hX in
theorem precedes_not {q k : ℕ} (hq : ¬ kept X q) : precedes (maskedScore X) k q ↔ kept X k ∨ (¬ kept X k ∧ k < q) := by
  unfold precedes
  rw [masked_not hq]
  by_cases hk : kept X k
  · exact iff_of_true (Or.inl (bot_lt_masked hk)) (Or.inl hk)
  · rw [masked_not hk]
    constructor
    · rintro (h | ⟨_, h⟩)
      · exact absurd h (lt_irrefl _)
      · exact Or.inr ⟨hk, h⟩
    · rintro (h | ⟨_, h⟩)
      · exact absurd h hk
      · exact Or.inr ⟨rfl, h⟩

/-- The place of a row is the number of rows that precede it by masked score. -/
theorem place_count {q : ℕ} (hq : q < 1000) :
    place (kept X) q = ((Finset.range 1000).filter (fun k => precedes (maskedScore X) k q)).card := by
  unfold place
  rw [if_pos hq]
  by_cases hk : kept X q
  · rw [if_pos hk]
    congr 1
    ext k
    simp only [Finset.mem_filter, Finset.mem_range]
    constructor
    · rintro ⟨h, h'⟩
      exact ⟨by omega, (precedes_kept hX hk (by omega)).mpr ⟨h, h'⟩⟩
    · rintro ⟨h, h'⟩
      exact (precedes_kept hX hk h).mp h'
  · rw [if_neg hk, ← Finset.card_union_of_disjoint]
    · congr 1
      ext k
      simp only [Finset.mem_union, Finset.mem_filter, Finset.mem_range]
      rw [precedes_not hk]
      constructor
      · rintro (⟨_, h⟩ | ⟨h, h'⟩)
        · exact ⟨kept_real hX h, Or.inl h⟩
        · exact ⟨by omega, Or.inr ⟨h', h⟩⟩
      · rintro ⟨h, h' | ⟨h', h2⟩⟩
        · exact Or.inl ⟨by omega, h'⟩
        · exact Or.inr ⟨h2, h'⟩
    · rw [Finset.disjoint_left]
      intro k h h'
      exact (Finset.mem_filter.mp h').2 (Finset.mem_filter.mp h).2

theorem place_outAt (p : Fin 1000) : place (kept X) (outAt X p) = p := by
  rw [place_count hX (outAt X p).2]
  exact topPos_count _ p

theorem place_eq (p : Fin 1000) {k : ℕ} : (p : ℕ) = place (kept X) k ↔ k = outAt X p := by
  constructor
  · intro h
    by_cases hr : k < 1000
    · obtain ⟨q, hq⟩ := topPos_surjective (maskedScore X) ⟨k, hr⟩
      have e : ((outAt X q : Fin 1000) : ℕ) = k := congrArg Fin.val hq
      rw [← e, place_outAt hX] at h
      have hp : p = q := Fin.ext h
      subst hp
      exact e.symm
    · unfold place at h
      rw [if_neg hr] at h
      have := p.2
      omega
  · intro h
    rw [h]
    exact (place_outAt hX p).symm

/-- A row of the result. -/
theorem result_real (p : Fin 1000) (d : ℕ) :
    result X p d = if d = 7 then (if kept X (outAt X p) then 1 else 0) else boxes X (outAt X p) d := by
  unfold result
  rw [Finset.sum_eq_single ((outAt X p : Fin 1000) : ℕ)]
  · rw [if_pos (place_outAt hX p).symm, one_mul]
  · intro i _ hne
    rw [if_neg (fun h => hne ((place_eq hX p).mp h)), zero_mul]
  · intro h
    exact absurd (Finset.mem_range.mpr (lt_trans (outAt X p).2 (by norm_num))) h

/-- The proposals are the sorted boxes at the positions of the masked scores. -/
theorem proposals_apply (p : Fin 1000) (d : Fin 6) : proposals X (ix2 p d) = boxes X (outAt X p) d := by
  show result X p d = _
  rw [result_real hX, if_neg (by have := d.2; omega)]

/-- The scores are the masked scores at these positions. -/
theorem finalScores_apply (p : Fin 1000) : finalScores X (ix1 p) = maskedScore X (outAt X p) := by
  show (if ((1 / 2 : ℝ) : EReal) < result X p 7 then result X p 6 else ⊥) = _
  rw [result_real hX, result_real hX, if_pos rfl, if_neg (by norm_num : ¬ (6 = 7))]
  unfold maskedScore
  exact if_congr (half_lt_ite _) rfl rfl

end Cert.Proof

end
-- ==== Proof.RefValue.lean ====
/-
What the reference computes from a selection's candidates: the kernel's proposals and scores.
-/
module

public import proofs.«01_k».proof.Proof.RefRead
public import proofs.«01_k».proof.Proof.Places

@[expose] public section

set_option maxRecDepth 16384

noncomputable section

namespace Cert.Proof.Ref

open Idealize.ShloMosaic Idealize.ShloMosaic.TcCoe Idealize.SL.Sem
open Idealize.ShloMosaic.StableHlo
open Cert.ReferenceIdeal Cert.ReferenceIdeal.Gen Cert.ReferenceIdeal.Value

theorem boxRow_apply (A : FVec Ideal S1024x8 .f32) (r : Fin 1000) (d : Fin 6) :
    extractStridedSlice S1000x6 ![0, 0] A slices_S1024x8_S1000x6_0_0 (ix2 r d)
      = A (ix2 (⟨r, lt_trans r.2 (by norm_num)⟩ : Fin 1024) (⟨d, lt_trans d.2 (by norm_num)⟩ : Fin 8)) := by
  pointwise

section Entry
variable (V : Valuation τ sig (Elt Ideal)) (A : S1024x8.Idx → EReal) (hA : (V (Proc.devRef .tc main_arg0) : S1024x8.Idx → EReal) = A)

/-- The contents after the candidates are sorted, taken and clipped. -/
abbrev afterClip : Valuation τ sig (Elt Ideal) := after hostOps0_3 (after hostOps0_2 (after hostOps0_1 (after hostOps0 V)))

theorem entry_eq : afterL preI V = after hostOps0_6 (after hostOps0_5 (after hostOps0_4 (afterClip V))) := rfl

include hA

theorem scoreRow_table (k : Fin 1000) : scoreRow A (ix1 k) = tableOf A k 6 := by
  rw [scoreRow_apply]
  exact tableOf_apply A ⟨k, by omega⟩ 6

theorem clip_values (hX : Selected (tableOf A)) (p : Fin 1000) :
    (afterClip V (Proc.devRef .tc main_values) : FVec Ideal S1000 .f32) (ix1 p) = boxes (tableOf A) p 6 := by
  have e : afterClip V (Proc.devRef .tc main_values) = after hostOps0 V (Proc.devRef .tc main_values) := by
    rw [afterClip, after_of_writes_sub hostOps0_3 _ hostOps0_3_writes (by decide), after_of_writes_sub hostOps0_2 _ hostOps0_2_writes (by decide),
      after_of_writes_sub hostOps0_1 _ hostOps0_1_writes (by decide)]
  rw [e, boxes_score hX]
  refine (congrFun (read_values V) (ix1 p)).trans ?_
  rw [hA]
  exact topK_value (scoreRow A) (fun k => tableOf A k 6) (scoreRow_table V A hA) sliceFits_S1000_S1000 p

theorem clip_boxes (hX : Selected (tableOf A)) (p : Fin 1000) (d : Fin 6) :
    (afterClip V (Proc.devRef .tc main_v4) : FVec Ideal S1000x6 .f32) (ix2 p d) = boxes (tableOf A) p d := by
  rw [boxes_coord hX p d.2, afterClip, read_clipped, clipTable_apply, read_taken]
  have hi : ∀ q : Fin 1000, (after hostOps0 V (Proc.devRef .tc main_indices) : IVec S1000 32) (ix1 q) = BitVec.ofNat 32 (rowAt (tableOf A) q : Fin 1000) := by
    intro q
    refine (congrFun (read_indices V) (ix1 q)).trans ?_
    rw [hA]
    exact topK_index (scoreRow A) (fun k => tableOf A k 6) (scoreRow_table V A hA) sliceFits_S1000_S1000 q
  rw [takeRows_apply _ _ _ hi, read_boxes, hA, boxRow_apply, tableOf_apply A]

theorem entry_values (hX : Selected (tableOf A)) (p : Fin 1000) :
    (afterL preI V (Proc.devRef .tc main_values) : FVec Ideal S1000 .f32) (ix1 p) = boxes (tableOf A) p 6 := by
  rw [entry_eq, after_of_writes_sub hostOps0_6 _ hostOps0_6_writes (by decide), after_of_writes_sub hostOps0_5 _ hostOps0_5_writes (by decide),
    after_of_writes_sub hostOps0_4 _ hostOps0_4_writes (by decide)]
  exact clip_values V A hA hX p

theorem entry_boxes (hX : Selected (tableOf A)) (p : Fin 1000) (d : Fin 6) :
    (afterL preI V (Proc.devRef .tc main_v4) : FVec Ideal S1000x6 .f32) (ix2 p d) = boxes (tableOf A) p d := by
  rw [entry_eq, after_of_writes_sub hostOps0_6 _ hostOps0_6_writes (by decide), after_of_writes_sub hostOps0_5 _ hostOps0_5_writes (by decide),
    after_of_writes_sub hostOps0_4 _ hostOps0_4_writes (by decide)]
  exact clip_boxes V A hA hX p d

/-- The loop's carried buffers when it begins. -/
theorem entry_state (hX : Selected (tableOf A)) :
    State (ratios (tableOf A)) (fun q => 0 < boxes (tableOf A) q 6) (afterL preI V) 0 where
  ratios := by
    intro i j
    rw [entry_eq, read_quotients, read_overlaps, after_of_writes_sub hostOps0_5 _ hostOps0_5_writes (by decide), read_volumes]
    exact quotients_apply _ (boxes (tableOf A)) (clip_boxes V A hA hX) i j
  numbers := by rw [entry_eq, read_numbers]
  turn := by rw [entry_eq, read_turn]
  flags := by
    intro j
    rw [entry_eq, read_flags, after_of_writes_sub hostOps0_5 _ hostOps0_5_writes (by decide), read_valid, validRow_apply, clip_values V A hA hX]
    exact congrArg BitVec.ofBool (decide_eq_decide.mpr Iff.rfl)

end Entry

section Final
variable (m : (ℓ : Loc nD τ sig) → Buf (Elt Ideal) ℓ) (c : Dev nD) (A : S1024x8.Idx → EReal)
  (hA : (m ((c.tc : Thread nD τ).loc main_arg0) : S1024x8.Idx → EReal) = A) (hX : Selected (tableOf A))

/-- The contents when the loop has ended. -/
abbrev ended : Valuation τ sig (Elt Ideal) := after condOps (atK m 1000 c)

include hA hX

theorem ended_values (p : Fin 1000) :
    (ended m c (Proc.devRef .tc main_values) : FVec Ideal S1000 .f32) (ix1 p) = boxes (tableOf A) p 6 := by
  rw [ended, cond_keep _ (by decide), atK_keep m c (by decide) (by decide) 1000]
  exact entry_values _ A hA hX p

theorem ended_boxes (p : Fin 1000) (d : Fin 6) :
    (ended m c (Proc.devRef .tc main_v4) : FVec Ideal S1000x6 .f32) (ix2 p d) = boxes (tableOf A) p d := by
  rw [ended, cond_keep _ (by decide), atK_keep m c (by decide) (by decide) 1000]
  exact entry_boxes _ A hA hX p d

open scoped Classical in
theorem ended_flags (p : Fin 1000) :
    (ended m c (Proc.devRef .tc main_v48_4) : IVec S1000 1) (ix1 p) = BitVec.ofBool (decide (kept (tableOf A) p)) := by
  rw [ended, cond_keep _ (by decide), atK_agree m c 1000 main_v48_4 (by decide),
    (state_at _ _ _ (entry_state _ A hA hX) 1000 le_rfl).flags p]
  exact congrArg BitVec.ofBool (decide_eq_decide.mpr (kept_turns p.2).symm)

open scoped Classical in
theorem ended_masked (p : Fin 1000) :
    (after hostOps0_8 (after hostOps0_7 (ended m c)) (Proc.devRef .tc main_v49) : FVec Ideal S1000 .f32) (ix1 p) = maskedScore (tableOf A) p := by
  rw [read_masked, maskRow_apply, ended_flags m c A hA hX, ended_values m c A hA hX, select_bool]
  unfold maskedScore
  exact if_congr (by simp) rfl rfl

/-- The scores in the end. -/
theorem final_scores : (finalContents condOps preI bodyI postI 1000 m c (Proc.devRef .tc main_values_6) : S1000.Idx → EReal) = finalScores (tableOf A) := by
  show after hostOps0_10 (after hostOps0_9 (after hostOps0_8 (after hostOps0_7 (ended m c)))) (Proc.devRef .tc main_values_6) = _
  rw [keep_scores, read_final]
  funext y
  refine (congrArg _ (eq_ix1 (n0 := 1000) y)).trans (Eq.trans ?_ (congrArg _ (eq_ix1 (n0 := 1000) y)).symm)
  exact (topK_value _ (maskedScore (tableOf A)) (ended_masked m c A hA hX) sliceFits_S1000_S1000 (y 0)).trans (finalScores_apply hX (y 0)).symm

/-- The proposals in the end. -/
theorem final_proposals : (finalContents condOps preI bodyI postI 1000 m c (Proc.devRef .tc main_v50) : S1000x6.Idx → EReal) = proposals (tableOf A) := by
  show after hostOps0_10 (after hostOps0_9 (after hostOps0_8 (after hostOps0_7 (ended m c)))) (Proc.devRef .tc main_v50) = _
  have hi : ∀ q : Fin 1000, (after hostOps0_9 (after hostOps0_8 (after hostOps0_7 (ended m c))) (Proc.devRef .tc main_indices_7) : IVec S1000 32) (ix1 q)
      = BitVec.ofNat 32 (outAt (tableOf A) q : Fin 1000) := by
    intro q
    refine (congrFun (read_places _) (ix1 q)).trans ?_
    exact topK_index _ (maskedScore (tableOf A)) (ended_masked m c A hA hX) sliceFits_S1000_S1000 q
  have hp : ∀ (p : Fin 1000) (d : Fin 6), takeRows (after hostOps0_9 (after hostOps0_8 (after hostOps0_7 (ended m c))) (Proc.devRef .tc main_v4))
      (after hostOps0_9 (after hostOps0_8 (after hostOps0_7 (ended m c))) (Proc.devRef .tc main_indices_7)) (ix2 p d) = proposals (tableOf A) (ix2 p d) := by
    intro p d
    rw [takeRows_apply _ _ _ hi, keep_boxes, proposals_apply hX]
    exact ended_boxes m c A hA hX (outAt (tableOf A) p) d
  rw [read_proposals]
  funext y
  exact (congrArg _ (eq_ix2 (n0 := 1000) (n1 := 6) y)).trans ((hp (y 0) (y 1)).trans (congrArg _ (eq_ix2 (n0 := 1000) (n1 := 6) y)).symm)

end Final

/-- The reference's run from tables `A c` of selected candidates. -/
theorem reference_run (m : (ℓ : Loc nD τ sig) → Buf (Elt Ideal) ℓ) (g : Dev nD → PrngReg) (A : Dev nD → S1024x8.Idx → EReal)
    (hA : ∀ c : Dev nD, m ((c.tc : Thread nD τ).loc main_arg0) = A c) (hX : ∀ c, Selected (tableOf (A c))) :
    θ_run (defs (F := Ideal)) (onTc (τ := τ) (main (F := Ideal))) ⟨m, fun _ => 0, g⟩ (fun r => ∀ c : Dev nD,
      r.2.mem ((c.tc : Thread nD τ).loc main_v50) = proposals (tableOf (A c))
      ∧ r.2.mem ((c.tc : Thread nD τ).loc main_values_6) = finalScores (tableOf (A c))
      ∧ r.2.mem ((c.tc : Thread nD τ).loc main_arg0) = m ((c.tc : Thread nD τ).loc main_arg0)) :=
  (θ_run defs _ _).mono (fun r h c =>
    ⟨(h c main_v50 rfl).trans (final_proposals m c (A c) (hA c) (hX c)), (h c main_values_6 rfl).trans (final_scores m c (A c) (hA c) (hX c)),
      (h c main_arg0 rfl).trans (final_arg0 m c)⟩) (run_fold (F := Ideal) m g)

end Cert.Proof.Ref

end
-- ==== Proof.Selection.lean ====
/-
What the precondition says of the table of candidates.
-/
module

public import proofs.«01_k».proof.Proof.Places
public import proofs.«01_k».proof.Proof.Gen.Pre_selected
public import Idealize.ShloMosaic.Lib.ReduceAll

@[expose] public section

set_option maxRecDepth 16384

noncomputable section

namespace Cert.Proof

open Idealize.ShloMosaic
open Cert.Pre_selected Cert.Pre_selected.Gen

section Parts
variable (A : FVec Ideal S1024x8 .f32)

/-- The score of a real row is above that of padding, -1. -/
def scoresOk : IVec S1000 1 :=
  cmpf (F := Ideal) (φ := .f32) .ogt (shapeCast S1000 (extractStridedSlice S1000x1 ![0, 6] A slices_S1024x8_S1000x1_0_6) shapeCasts_S1000x1_S1000)
    (broadcastInDim S1000 ![] bcast_S_S1000 (constant S_ .f32 0xBF800000#32))

/-- Column 7 of a real row is below that of the next. -/
def orderOk : IVec S999 1 :=
  cmpf (F := Ideal) (φ := .f32) .olt (shapeCast S999 (extractStridedSlice S999x1 ![0, 7] A slices_S1024x8_S999x1_0_7) shapeCasts_S999x1_S999)
    (shapeCast S999 (extractStridedSlice S999x1 ![1, 7] A slices_S1024x8_S999x1_1_7) shapeCasts_S999x1_S999)

/-- No score of a padding row is positive. -/
def padsOk : IVec S24 1 :=
  cmpf (F := Ideal) (φ := .f32) .ole (shapeCast S24 (extractStridedSlice S24x1 ![1000, 6] A slices_S1024x8_S24x1_1000_6) shapeCasts_S24x1_S24)
    (broadcastInDim S24 ![] bcast_S_S24 (constant S_ .f32 0x00000000#32))

theorem scoresOk_apply (i : Fin 1000) : scoresOk A (ix1 i) = Ideal.cmp .ogt (A (ix2 (⟨i, lt_trans i.2 (by norm_num)⟩ : Fin 1024) (6 : Fin 8))) (Ideal.ofBits .f32 0xBF800000#32) := by
  pointwise [scoresOk]

theorem orderOk_apply (i : Fin 999) : orderOk A (ix1 i) = Ideal.cmp .olt (A (ix2 (⟨i, lt_trans i.2 (by norm_num)⟩ : Fin 1024) (7 : Fin 8)))
    (A (ix2 (⟨1 + i, by omega⟩ : Fin 1024) (7 : Fin 8))) := by
  pointwise [orderOk]

theorem padsOk_apply (i : Fin 24) : padsOk A (ix1 i) = Ideal.cmp .ole (A (ix2 (⟨1000 + i, by omega⟩ : Fin 1024) (6 : Fin 8))) (Ideal.ofBits .f32 0x00000000#32) := by
  pointwise [padsOk]

theorem and_one {a b : BitVec 1} (h : IntOp.andi a b = 1#1) : a = 1#1 ∧ b = 1#1 := by
  revert a b
  decide

/-- The precondition, decoded. -/
theorem selected_of_pre (h : Cert.Pre_selected.fn (F := Ideal) A = fun _ => 1#1) : Selected (tableOf A) := by
  have h' := congrFun h (Shape.Idx.first Cert.Pre_selected.Gen.h_S_)
  have h0 : IntOp.andi (IntOp.andi (Host.reduce IntOp.andi (scoresOk A) (constantI S_ 1 1#1) reducesTo_S1000_S_d0 h_S_ (Shape.Idx.first h_S_))
      (Host.reduce IntOp.andi (orderOk A) (constantI S_ 1 1#1) reducesTo_S999_S_d0 h_S_ (Shape.Idx.first h_S_)))
      (Host.reduce IntOp.andi (padsOk A) (constantI S_ 1 1#1) reducesTo_S24_S_d0 h_S_ (Shape.Idx.first h_S_)) = 1#1 := h'
  obtain ⟨h12, h3⟩ := and_one h0
  obtain ⟨h1, h2⟩ := and_one h12
  have : Subsingleton S_.Idx := ⟨fun a b => funext fun i => i.elim0⟩
  refine ⟨fun i hi => ?_, fun i hi => ?_, fun i hi hi' => ?_⟩
  · have e := Host.reduce_andi_all _ _ _ _ _ h1 (ix1 (⟨i, hi⟩ : Fin 1000))
    rw [scoresOk_apply, word_neg_one] at e
    have e2 := of_decide_eq_true ((bool_eq_one _).mp e)
    exact (tableOf_apply A (⟨i, lt_trans hi (by norm_num)⟩ : Fin 1024) 6) ▸ e2
  · have e := Host.reduce_andi_all _ _ _ _ _ h2 (ix1 (⟨i, hi⟩ : Fin 999))
    rw [orderOk_apply] at e
    have e2 := of_decide_eq_true ((bool_eq_one _).mp e)
    rw [tableOf_apply A, tableOf_apply A] at e2
    have e3 : tableOf A i 7 < tableOf A (1 + i) 7 := e2
    rwa [Nat.add_comm 1 i] at e3
  · have e := Host.reduce_andi_all _ _ _ _ _ h3 (ix1 (⟨i - 1000, by omega⟩ : Fin 24))
    rw [padsOk_apply, Ideal.ofBits_zero_f32] at e
    have e2 := of_decide_eq_true ((bool_eq_one _).mp e)
    rw [tableOf_apply A] at e2
    have e3 : tableOf A (1000 + (i - 1000)) 6 ≤ 0 := e2
    rwa [show 1000 + (i - 1000) = i by omega] at e3

end Parts

end Cert.Proof

end
-- ==== Proof.SelSpec.lean ====
module

public import proofs.«01_k».proof.Proof.TopK

/-!
What the first call computes, over the integers: the greatest word that at least 1000 of the numbers reach, found bit by
bit; the rows selected by it; the slot of each; and that these are the rows before which fewer than 1000 rows go.
-/

@[expose] public section
noncomputable section
namespace Cert.Proof
open Idealize.ShloMosaic
open scoped Classical

/-- One bit of the search: taken when 1000 of the numbers still reach the word. -/
def bitStep (c : ℤ → ℕ) (k x : ℕ) : ℕ := if 1000 ≤ c ((x + 2 ^ k : ℕ) : ℤ) then x + 2 ^ k else x

/-- The word after the first `n` of the 31 bits. -/
def search (c : ℤ → ℕ) : ℕ → ℕ
  | 0 => 0
  | n + 1 => bitStep c (30 - n) (search c n)

theorem search_inv (c : ℤ → ℕ) (h0 : 1000 ≤ c 0) (h1 : c ((2 ^ 31 : ℕ) : ℤ) < 1000) (n : ℕ) (hn : n ≤ 31) :
    2 ^ (31 - n) ∣ search c n ∧ search c n + 2 ^ (31 - n) ≤ 2 ^ 31 ∧ 1000 ≤ c (search c n)
      ∧ c ((search c n + 2 ^ (31 - n) : ℕ) : ℤ) < 1000 := by
  induction n with
  | zero => exact ⟨dvd_zero _, by norm_num [search], by simpa [search] using h0, by simpa [search] using h1⟩
  | succ n ih =>
    obtain ⟨i1, i2, i3, i4⟩ := ih (by omega)
    have e : 2 ^ (31 - n) = 2 ^ (30 - n) + 2 ^ (30 - n) := by
      rw [show 31 - n = (30 - n) + 1 by omega, pow_succ]; omega
    have e' : 31 - (n + 1) = 30 - n := by omega
    have d : 2 ^ (30 - n) ∣ search c n := Dvd.dvd.trans ⟨2, by omega⟩ i1
    rw [e']
    unfold search bitStep
    split
    · rename_i h
      refine ⟨Dvd.dvd.add d (dvd_refl _), by omega, h, ?_⟩
      rw [Nat.add_assoc, ← e]; exact i4
    · rename_i h
      exact ⟨d, by omega, i3, not_le.mp h⟩

/-- How many of the first 20480 numbers are at least `w`. -/
def atLeast (b : ℕ → ℤ) (w : ℤ) : ℕ := ((Finset.range 20480).filter (fun i => w ≤ b i)).card

/-- The word the search ends with. -/
def pivot (b : ℕ → ℤ) : ℕ := search (atLeast b) 31

theorem pivot_spec (b : ℕ → ℤ) (h0 : 1000 ≤ atLeast b 0) (hb : ∀ i, b i < 2 ^ 31) :
    pivot b < 2 ^ 31 ∧ 1000 ≤ atLeast b (pivot b) ∧ atLeast b (pivot b + 1) < 1000 := by
  have h1 : atLeast b ((2 ^ 31 : ℕ) : ℤ) < 1000 := by
    unfold atLeast
    rw [Finset.filter_false_of_mem fun i _ h => absurd (hb i) (by push_cast at h; omega)]
    simp
  obtain ⟨-, i2, i3, i4⟩ := search_inv (atLeast b) h0 h1 31 (le_refl _)
  refine ⟨by unfold pivot; omega, i3, ?_⟩
  rw [Nat.sub_self, pow_zero] at i4
  push_cast at i4
  exact i4

/-- How many ties with the word are taken. -/
def wanted (b : ℕ → ℤ) (x : ℤ) : ℕ := 1000 - atLeast b (x + 1)

/-- Row `i` ties with the word. -/
def Tie (b : ℕ → ℤ) (x : ℤ) (i : ℕ) : Prop := b i = x

/-- How many ties with the word lie before row `i`. -/
def tiesBefore (b : ℕ → ℤ) (x : ℤ) (i : ℕ) : ℕ := ((Finset.range i).filter (Tie b x)).card

/-- Row `i` is selected. -/
def Chosen (b : ℕ → ℤ) (x : ℤ) (i : ℕ) : Prop := x < b i ∨ (Tie b x i ∧ tiesBefore b x i < wanted b x)

/-- How many rows are selected before row `i`. -/
def slot (b : ℕ → ℤ) (x : ℤ) (i : ℕ) : ℕ := ((Finset.range i).filter (Chosen b x)).card

/-- Row `k` goes before row `i`: a greater number, or an equal one in an earlier row. -/
def Ahead (b : ℕ → ℤ) (k i : ℕ) : Prop := b i < b k ∨ (b k = b i ∧ k < i)

/-- How many rows go before row `i`. -/
def aheadCount (b : ℕ → ℤ) (i : ℕ) : ℕ := ((Finset.range 20480).filter (fun k => Ahead b k i)).card

/-- The selected rows are those before which fewer than 1000 rows go. -/
theorem chosen_iff (b : ℕ → ℤ) (x : ℤ) (h1 : 1000 ≤ atLeast b x) (h2 : atLeast b (x + 1) < 1000) (i : ℕ) (hi : i < 20480) :
    Chosen b x i ↔ aheadCount b i < 1000 := by
  rcases lt_trichotomy x (b i) with h | h | h
  · refine ⟨fun _ => lt_of_le_of_lt (Finset.card_le_card fun k hk => ?_) h2, fun _ => Or.inl h⟩
    rw [Finset.mem_filter] at hk ⊢
    refine ⟨hk.1, ?_⟩
    rcases hk.2 with h' | ⟨h', _⟩ <;> omega
  · have e : aheadCount b i = atLeast b (x + 1) + tiesBefore b x i := by
      have u : (Finset.range 20480).filter (fun k => Ahead b k i)
          = (Finset.range 20480).filter (fun k => x + 1 ≤ b k) ∪ (Finset.range i).filter (Tie b x) := by
        ext k
        rw [Finset.mem_union, Finset.mem_filter, Finset.mem_filter, Finset.mem_filter, Finset.mem_range, Finset.mem_range]
        show _ ∧ _ ↔ _ ∨ _ ∧ b k = x
        constructor
        · rintro ⟨hk, h' | ⟨h', h''⟩⟩
          · exact Or.inl ⟨hk, by omega⟩
          · exact Or.inr ⟨h'', by omega⟩
        · rintro (⟨hk, h'⟩ | ⟨hk, h'⟩)
          · exact ⟨hk, Or.inl (by omega)⟩
          · exact ⟨by omega, Or.inr ⟨by omega, hk⟩⟩
      refine Eq.trans (congrArg Finset.card u) (Finset.card_union_of_disjoint ?_)
      rw [Finset.disjoint_left]
      intro k hk hk'
      have h1 : x + 1 ≤ b k := (Finset.mem_filter.mp hk).2
      have h2 : b k = x := (Finset.mem_filter.mp hk').2
      omega
    rw [e]
    unfold Chosen wanted
    constructor
    · rintro (h' | ⟨_, h'⟩) <;> omega
    · intro h'
      exact Or.inr ⟨h.symm, by omega⟩
  · constructor
    · rintro (h' | ⟨h', _⟩)
      · omega
      · have h'' : b i = x := h'
        omega
    · intro h'
      refine absurd (lt_of_le_of_lt (le_trans h1 (Finset.card_le_card fun k hk => ?_)) h') (lt_irrefl _)
      rw [Finset.mem_filter] at hk ⊢
      exact ⟨hk.1, Or.inl (by omega)⟩

/-- Of two selected rows the later one has the later slot. -/
theorem slot_lt (b : ℕ → ℤ) (x : ℤ) {i j : ℕ} (hi : Chosen b x i) (hij : i < j) : slot b x i < slot b x j := by
  refine Finset.card_lt_card ⟨fun k hk => ?_, fun h => ?_⟩
  · rw [Finset.mem_filter, Finset.mem_range] at hk ⊢
    exact ⟨by omega, hk.2⟩
  · have := h (Finset.mem_filter.mpr ⟨Finset.mem_range.mpr hij, hi⟩)
    rw [Finset.mem_filter, Finset.mem_range] at this
    omega

theorem slot_inj (b : ℕ → ℤ) (x : ℤ) {i j : ℕ} (hi : Chosen b x i) (hj : Chosen b x j) (h : slot b x i = slot b x j) : i = j := by
  rcases lt_trichotomy i j with h' | h' | h'
  · have := slot_lt b x hi h'; omega
  · exact h'
  · have := slot_lt b x hj h'; omega

/-- Row `i`'s share of row `p` of the result. -/
def share (b : ℕ → ℤ) (x : ℤ) (T : ℕ → ℕ → EReal) (p d i : ℕ) : EReal :=
  if Chosen b x i ∧ slot b x i = p then T i d else 0

/-- Row `p` of the result after the rows before `n`. -/
def packed (b : ℕ → ℤ) (x : ℤ) (T : ℕ → ℕ → EReal) (n p d : ℕ) : EReal := ∑ i ∈ Finset.range n, share b x T p d i

/-- The row whose slot is `p` is row `p` of the result. -/
theorem packed_eq (b : ℕ → ℤ) (x : ℤ) (T : ℕ → ℕ → EReal) (n p d i : ℕ) (hi : i < n) (hc : Chosen b x i) (hs : slot b x i = p) :
    packed b x T n p d = T i d := by
  unfold packed
  rw [Finset.sum_eq_single i]
  · unfold share; rw [if_pos ⟨hc, hs⟩]
  · intro j _ hj
    unfold share
    rw [if_neg fun h => hj (slot_inj b x h.1 hc (h.2.trans hs.symm))]
  · intro h; exact absurd (Finset.mem_range.mpr hi) h

/-- A slot no row has is left at zero. -/
theorem packed_zero (b : ℕ → ℤ) (x : ℤ) (T : ℕ → ℕ → EReal) (n p d : ℕ) (h : ∀ i < n, Chosen b x i → slot b x i ≠ p) :
    packed b x T n p d = 0 := by
  unfold packed
  refine Finset.sum_eq_zero fun i hi => ?_
  unfold share
  rw [if_neg fun hc => h i (Finset.mem_range.mp hi) hc.1 hc.2]

end Cert.Proof
end
-- ==== Proof.SelOrder.lean ====
/-
The thousand rows that `top_k` selects, put in increasing order, are the rows that the first call packs.

`top_k` orders the rows by decreasing number and, where numbers are equal, by increasing row; a row's place in that order
is how many rows go ahead of it, so the first thousand are the chosen ones. Sorted by row, the one at place `q` has `q`
chosen rows before it, which is the slot the first call packs it into.
-/
module

public import proofs.«01_k».proof.Proof.TopK
public import proofs.«01_k».proof.Proof.SelSpec

@[expose] public section

set_option maxRecDepth 65536

noncomputable section

namespace Cert.Proof

open Idealize.ShloMosaic
open scoped Classical

/-- Whole numbers as values to be ordered. -/
def key (b : ℕ → ℤ) (k : ℕ) : EReal := (((b k : ℤ) : ℝ) : EReal)

theorem key_lt (b : ℕ → ℤ) (i k : ℕ) : key b i < key b k ↔ b i < b k := by
  unfold key
  rw [EReal.coe_lt_coe_iff, Int.cast_lt]

theorem key_eq (b : ℕ → ℤ) (i k : ℕ) : key b i = key b k ↔ b i = b k := by
  unfold key
  rw [EReal.coe_eq_coe_iff, Int.cast_inj]

theorem precedes_key (b : ℕ → ℤ) (k i : ℕ) : precedes (key b) k i ↔ Ahead b k i :=
  or_congr (key_lt b i k) (and_congr (key_eq b k i) Iff.rfl)

/-- The order `top_k` makes of the first `n` places. -/
def placeOrder (n : ℕ) (b : ℕ → ℤ) : Fin n → Fin n := sortedFrom (greater (key b))

theorem placeOrder_injective (n : ℕ) (b : ℕ → ℤ) : Function.Injective (placeOrder n b) := sortedFrom_injective _

theorem placeOrder_surjective (n : ℕ) (b : ℕ → ℤ) : Function.Surjective (placeOrder n b) := sortedFrom_surjective _

theorem placeOrder_count (n : ℕ) (b : ℕ → ℤ) (p : Fin n) : ((Finset.range n).filter (fun k => Ahead b k (placeOrder n b p))).card = p := by
  rw [← count_before (key b) (placeOrder n b) (sortedFrom_injective _) (sortedFrom_surjective _) (sortedFrom_precedes_iff (key b)) p]
  exact congrArg Finset.card (Finset.filter_congr fun k _ => (precedes_key b k _).symm)

/-- The row that `top_k` returns at place `p`. -/
def topRow (b : ℕ → ℤ) (p : Fin 1000) : Fin 20480 := placeOrder 20480 b ⟨p, lt_trans p.2 (by norm_num)⟩

theorem topRow_injective (b : ℕ → ℤ) : Function.Injective (topRow b) := by
  intro p q h
  have e := placeOrder_injective 20480 b h
  exact Fin.ext (Fin.mk.inj_iff.mp e)

theorem aheadCount_topRow (b : ℕ → ℤ) (p : Fin 1000) : aheadCount b (topRow b p) = p := placeOrder_count 20480 b _

section Rows
variable (b : ℕ → ℤ) (x : ℤ) (h1 : 1000 ≤ atLeast b x) (h2 : atLeast b (x + 1) < 1000)

include h1 h2 in
theorem chosen_topRow (p : Fin 1000) : Chosen b x (topRow b p) := by
  rw [chosen_iff b x h1 h2 _ (topRow b p).2, aheadCount_topRow]
  exact p.2

include h1 h2 in
theorem topRow_onto (i : ℕ) (hi : i < 20480) (hc : Chosen b x i) : ∃ p : Fin 1000, (topRow b p : ℕ) = i := by
  obtain ⟨q, hq⟩ := placeOrder_surjective 20480 b ⟨i, hi⟩
  have hc' := (chosen_iff b x h1 h2 i hi).mp hc
  have e : aheadCount b i = q := by
    have e := placeOrder_count 20480 b q
    rw [hq] at e
    exact e
  exact ⟨⟨q, e ▸ hc'⟩, congrArg Fin.val hq⟩

/-- The rows returned, negated, so that the greatest is the first row. -/
def negated (k : ℕ) : ℤ := if h : k < 1000 then -((topRow b ⟨k, h⟩ : ℕ) : ℤ) else 0

theorem negated_apply (k : Fin 1000) : negated b k = -((topRow b k : ℕ) : ℤ) := by
  unfold negated
  rw [dif_pos k.2]

/-- The rows returned, in increasing order: the one at place `q`. -/
def nthRow (q : Fin 1000) : Fin 20480 := topRow b (placeOrder 1000 (negated b) q)

theorem ahead_negated (k l : Fin 1000) : Ahead (negated b) k l ↔ (topRow b k : ℕ) < topRow b l := by
  unfold Ahead
  rw [negated_apply, negated_apply]
  constructor
  · rintro (h | ⟨h, h'⟩)
    · omega
    · have e : k = l := topRow_injective b (Fin.ext (by omega))
      rw [e] at h'
      exact absurd h' (lt_irrefl _)
  · intro h
    exact Or.inl (by omega)

include h1 h2 in
theorem slot_nthRow (q : Fin 1000) : slot b x (nthRow b q) = q := by
  refine Eq.trans (Eq.symm ?_) (placeOrder_count 1000 (negated b) q)
  refine Finset.card_bij (fun k hk => (topRow b ⟨k, Finset.mem_range.mp (Finset.mem_filter.mp hk).1⟩ : ℕ)) (fun k hk => ?_) (fun k hk l hl h => ?_) (fun i hi => ?_)
  · have hk' := Finset.mem_filter.mp hk
    exact Finset.mem_filter.mpr ⟨Finset.mem_range.mpr ((ahead_negated b ⟨k, Finset.mem_range.mp hk'.1⟩ _).mp hk'.2), chosen_topRow b x h1 h2 _⟩
  · exact Fin.mk.inj_iff.mp (topRow_injective b (Fin.ext h))
  · have hi' := Finset.mem_filter.mp hi
    have hl := Finset.mem_range.mp hi'.1
    obtain ⟨p, hp⟩ := topRow_onto b x h1 h2 i (lt_trans hl (nthRow b q).2) hi'.2
    exact ⟨p, Finset.mem_filter.mpr ⟨Finset.mem_range.mpr p.2, (ahead_negated b p _).mpr (by rw [hp]; exact hl)⟩, hp⟩

include h1 h2 in
/-- What the first call packs: the rows `top_k` returns in increasing order, and zeros after them. -/
theorem packed_rows (T : ℕ → ℕ → EReal) (p d : ℕ) :
    packed b x T 20480 p d = if h : p < 1000 then T (nthRow b ⟨p, h⟩) d else 0 := by
  split
  · rename_i h
    exact packed_eq b x T 20480 p d _ (nthRow b ⟨p, h⟩).2 (chosen_topRow b x h1 h2 _) (slot_nthRow b x h1 h2 ⟨p, h⟩)
  · rename_i h
    refine packed_zero b x T 20480 p d fun i hi hc => ?_
    obtain ⟨k, hk⟩ := topRow_onto b x h1 h2 i hi hc
    obtain ⟨q, hq⟩ := placeOrder_surjective 1000 (negated b) k
    have e := slot_nthRow b x h1 h2 q
    have e2 : (nthRow b q : ℕ) = i := by rw [← hk, ← hq]; rfl
    rw [e2] at e
    have := q.2
    omega

end Rows

end Cert.Proof

end
-- ==== Proof.SelWord.lean ====
module

public import proofs.«01_k».proof.Proof.Words
public import proofs.«01_k».proof.Proof.SelSpec
public import proofs.«01_k».proof.Proof.Gen.Kernel2Ideal.Value

/-!
The first call's search for the word, and what its word and its count of ties are.
-/

@[expose] public section
set_option maxRecDepth 65536
noncomputable section
namespace Cert.Proof
open Cert.Kernel2Ideal Cert.Kernel2Ideal.Gen
open Idealize.ShloMosaic Idealize.SL.Sem

section Ops
variable {F : FTy → Type} [FloatOps F]

/-- How many places of the table are marked. -/
def marked (v : IVec S160x128 1) : F .f32 :=
  extractAt ![0, 0, 0] (shapeCast S1x1x1 (multiReduction .add [1, 2] S1
    (shapeCast S1x160x128 (select v (broadcast S160x128 (Scalar.ofBits .f32 0x3F800000#32) : FVec F S160x128 .f32)
      (broadcast S160x128 (Scalar.ofBits .f32 0x00000000#32))) shapeCasts_S160x128_S1x160x128)
    0x00000000#32 reduces_S1x160x128_S1 (.inl rfl) rfl) shapeCasts_S1_S1x1x1) inpos_S1x1x1_p0_0_0

/-- One bit of the search, on words. -/
def trial (s : IVec S160x128 32) (w x : BitVec 32) : BitVec 32 :=
  Scalar.select (Scalar.cmpf .oge (marked (F := F) (cmpi .sge s (broadcast S160x128 (Scalar.ori x w)))) (Scalar.ofBits .f32 0x447A0000#32))
    (Scalar.ori x w) x

/-- The word after the first `n` bits. -/
def searchWord (s : IVec S160x128 32) : ℕ → BitVec 32
  | 0 => 0#32
  | n + 1 => trial (F := F) s (BitVec.ofNat 32 (2 ^ (30 - n))) (searchWord s n)

/-- The table of words as the body reads it. -/
abbrev readWords (arg1 : Memref sig .tc .vmem S160x128 .i32) (harg1 : arg1.IsWhole) (x0 : Vec F S160x128 .i32) : IVec S160x128 32 :=
  k0_pay5 (F := F) (View.readAt (Elt F) arg1.view (Rect.unit ![0, 0] S160x128.size inb_S160x128_S160x128_0_0).toLoadRect (harg1.unread x0))

theorem searchWord_step (s : IVec S160x128 32) (n : ℕ) (v x : BitVec 32) (h : v = trial (F := F) s (BitVec.ofNat 32 (2 ^ (30 - n))) x)
    (h' : x = searchWord (F := F) s n) : v = searchWord (F := F) s (n + 1) := by
  rw [h, h']; rfl

theorem word_found (c : Dev nD) (arg1 : Memref sig .tc .vmem S160x128 .i32) (harg1 : arg1.IsWhole) (x0 : Vec F S160x128 .i32) :
    kernelRun0_A.sl.v509 c arg1 harg1 x0 = searchWord (F := F) (readWords arg1 harg1 x0) 31 := by
  iterate 31 refine searchWord_step _ _ _ _ rfl ?_
  rfl

theorem wanted_found (c : Dev nD) (arg1 : Memref sig .tc .vmem S160x128 .i32) (harg1 : arg1.IsWhole) (x0 : Vec F S160x128 .i32) :
    kernelRun0_A.sl.v523 c arg1 harg1 x0 = Scalar.fptosi 32 (Scalar.subf (Scalar.ofBits .f32 0x447A0000#32)
      (marked (F := F) (cmpi .sgt (readWords arg1 harg1 x0) (broadcast S160x128 (searchWord (F := F) (readWords arg1 harg1 x0) 31))))) := by
  rw [← word_found c]
  rfl

end Ops

section Readings
open scoped Classical

theorem sum_places (f : ℕ → EReal) : (∑ r : Fin 160, ∑ l : Fin 128, f (r * 128 + l)) = ∑ i ∈ Finset.range 20480, f i := by
  rw [Finset.sum_range, ← Fintype.sum_prod_type' (fun (r : Fin 160) (l : Fin 128) => f (r * 128 + l))]
  refine Fintype.sum_equiv (finProdFinEquiv (m := 160) (n := 128)) _ _ fun p => congrArg f ?_
  show (p.1 : ℕ) * 128 + p.2 = (p.2 : ℕ) + 128 * p.1
  omega

theorem marked_apply (P : ℕ → Prop) (v : IVec S160x128 1)
    (h : ∀ (r : Fin 160) (l : Fin 128), v (ix2 r l) = BitVec.ofBool (decide (P (r * 128 + l)))) :
    marked (F := Ideal) v = (((Finset.range 20480).filter P).card : EReal) := by
  rw [← sum_count, ← sum_places]
  pointwise [marked]
  simp only [h, select_bool, decide_eq_true_eq]

theorem marked_atLeast (b : ℕ → ℤ) (w : ℤ) (v : IVec S160x128 1)
    (h : ∀ (r : Fin 160) (l : Fin 128), v (ix2 r l) = BitVec.ofBool (decide (w ≤ b (r * 128 + l)))) :
    marked (F := Ideal) v = ((atLeast b w : ℕ) : EReal) := by
  refine (marked_apply (fun i => w ≤ b i) v fun r l => (h r l).trans (congrArg BitVec.ofBool (decide_eq_decide.mpr Iff.rfl))).trans ?_
  unfold atLeast
  congr

theorem sge_word (a w : BitVec 32) : IntOp.cmpi .sge a w = BitVec.ofBool (decide (w.toInt ≤ a.toInt)) := rfl
theorem sgt_word (a w : BitVec 32) : IntOp.cmpi .sgt a w = BitVec.ofBool (decide (w.toInt < a.toInt)) := rfl

/-- A small number's word, read as an integer. -/
theorem toInt_small (n : ℕ) (h : n < 2 ^ 31) : (BitVec.ofNat 32 n).toInt = (n : ℤ) := by
  rw [BitVec.toInt_eq_toNat_of_lt] <;> simp only [BitVec.toNat_ofNat] <;> omega

/-- The word of a small number, from its float. -/
theorem fptosi_nat (n : ℕ) (h : n < 2 ^ 31) : Ideal.fptosi 32 (n : EReal) = BitVec.ofNat 32 n := by
  rw [← nat_real]
  show BitVec.ofInt 32 (max _ (min _ (if (0 : ℝ) ≤ (n : ℝ) then ⌊(n : ℝ)⌋ else ⌈(n : ℝ)⌉))) = _
  rw [if_pos (Nat.cast_nonneg n), Int.floor_natCast, ← BitVec.ofInt_natCast]
  congr 1
  norm_num at h ⊢
  omega

theorem fptosi_neg_one : Ideal.fptosi 32 (-1) = 0xFFFFFFFF#32 := by
  rw [show (-1 : EReal) = ((-1 : ℝ) : EReal) by rw [EReal.coe_neg, EReal.coe_one]]
  show BitVec.ofInt 32 (max _ (min _ (if (0 : ℝ) ≤ (-1 : ℝ) then ⌊(-1 : ℝ)⌋ else ⌈(-1 : ℝ)⌉))) = _
  rw [if_neg (by norm_num), show ⌈(-1 : ℝ)⌉ = -1 by rw [show (-1 : ℝ) = ((-1 : ℤ) : ℝ) by norm_num, Int.ceil_intCast]]
  decide

/-- A bit below all the bits of a word is added by `or`. -/
theorem ori_add (k X : ℕ) (hd : 2 ^ (k + 1) ∣ X) : Scalar.ori (BitVec.ofNat 32 X) (BitVec.ofNat 32 (2 ^ k)) = BitVec.ofNat 32 (X + 2 ^ k) := by
  obtain ⟨a, rfl⟩ := hd
  show BitVec.ofNat 32 _ ||| BitVec.ofNat 32 _ = _
  rw [← BitVec.ofNat_or, Nat.two_pow_add_eq_or_of_lt (by rw [pow_succ]; have := Nat.two_pow_pos k; omega)]

theorem trial_eq (b : ℕ → ℤ) (s : IVec S160x128 32) (hs : ∀ (r : Fin 160) (l : Fin 128), (s (ix2 r l)).toInt = b (r * 128 + l)) (k X : ℕ)
    (hd : 2 ^ (k + 1) ∣ X) (hX : X + 2 ^ (k + 1) ≤ 2 ^ 31) :
    trial (F := Ideal) s (BitVec.ofNat 32 (2 ^ k)) (BitVec.ofNat 32 X) = BitVec.ofNat 32 (bitStep (atLeast b) k X) := by
  have hl : X + 2 ^ k < 2 ^ 31 := by rw [pow_succ] at hX; have := Nat.two_pow_pos k; omega
  unfold trial
  rw [ori_add k X hd, marked_atLeast b ((X + 2 ^ k : ℕ) : ℤ) _ fun r l => ?_]
  · show Scalar.select (Scalar.cmpf (F := Ideal) (φ := .f32) .oge _ (Ideal.ofBits .f32 0x447A0000#32)) _ _ = _
    rw [word_1000]
    show Scalar.select (BitVec.ofBool (decide (((1000 : ℕ) : EReal) ≤ ((atLeast b ((X + 2 ^ k : ℕ) : ℤ) : ℕ) : EReal)))) _ _ = _
    rw [select_bool]
    unfold bitStep
    simp only [decide_eq_true_eq, nat_le]
    split <;> rfl
  · show IntOp.cmpi .sge (s (ix2 r l)) _ = _
    rw [sge_word, hs]
    show BitVec.ofBool (decide ((BitVec.ofNat 32 (X + 2 ^ k)).toInt ≤ _)) = _
    rw [toInt_small _ hl]

/-- The search on words is the search on numbers. -/
theorem searchWord_eq (b : ℕ → ℤ) (s : IVec S160x128 32) (hs : ∀ (r : Fin 160) (l : Fin 128), (s (ix2 r l)).toInt = b (r * 128 + l))
    (h0 : 1000 ≤ atLeast b 0) (h1 : atLeast b ((2 ^ 31 : ℕ) : ℤ) < 1000) (n : ℕ) (hn : n ≤ 31) :
    searchWord (F := Ideal) s n = BitVec.ofNat 32 (search (atLeast b) n) := by
  induction n with
  | zero => rfl
  | succ n ih =>
    obtain ⟨i1, i2, -, -⟩ := search_inv (atLeast b) h0 h1 n (by omega)
    rw [show 31 - n = 30 - n + 1 by omega] at i1 i2
    show trial (F := Ideal) s _ (searchWord (F := Ideal) s n) = BitVec.ofNat 32 (bitStep _ _ _)
    rw [ih (by omega), trial_eq b s hs _ _ i1 i2]

/-- The count of ties taken, as the body computes it. -/
theorem wanted_eq (b : ℕ → ℤ) (s : IVec S160x128 32) (hs : ∀ (r : Fin 160) (l : Fin 128), (s (ix2 r l)).toInt = b (r * 128 + l))
    (X : ℕ) (hX : X < 2 ^ 31) (h2 : atLeast b (X + 1) < 1000) :
    Scalar.fptosi 32 (Scalar.subf (Scalar.ofBits .f32 0x447A0000#32)
      (marked (F := Ideal) (cmpi .sgt s (broadcast S160x128 (BitVec.ofNat 32 X))))) = BitVec.ofNat 32 (wanted b X) := by
  rw [marked_atLeast b ((X : ℤ) + 1) _ fun r l => ?_]
  · show Ideal.fptosi 32 (Ideal.ofBits .f32 0x447A0000#32 - ((atLeast b (X + 1) : ℕ) : EReal)) = _
    rw [word_1000, ← nat_real, ← nat_real, ← EReal.coe_sub, ← Nat.cast_sub (by omega), nat_real]
    exact fptosi_nat _ (by omega)
  · show IntOp.cmpi .sgt (s (ix2 r l)) _ = _
    rw [sgt_word, hs]
    show BitVec.ofBool (decide ((BitVec.ofNat 32 X).toInt < _)) = _
    rw [toInt_small _ hX]
    exact congrArg BitVec.ofBool (decide_eq_decide.mpr Int.lt_iff_add_one_le)

end Readings
end Cert.Proof
end
-- ==== Proof.SelTile.lean ====
module

public import proofs.«01_k».proof.Proof.SelWord

/-!
One point of the first call: of 1024 rows, which are selected, their slots, and what they add to the result and the counts.
-/

@[expose] public section
set_option maxRecDepth 65536
noncomputable section
namespace Cert.Proof
open Cert.Kernel2Ideal Cert.Kernel2Ideal.Gen
open Idealize.ShloMosaic
open scoped Classical

theorem eq_small (a : BitVec 32) (n : ℕ) (h : n < 2 ^ 31) :
    IntOp.cmpi .eq a (BitVec.ofNat 32 n) = BitVec.ofBool (decide (a.toInt = n)) := by
  show BitVec.ofBool (a == BitVec.ofNat 32 n) = _
  refine congrArg BitVec.ofBool ?_
  rw [Bool.eq_iff_iff, beq_iff_eq, decide_eq_true_eq, ← toInt_small n h]
  exact ⟨fun h => congrArg _ h, BitVec.eq_of_toInt_eq⟩

theorem sgt_small (a : BitVec 32) (n : ℕ) (h : n < 2 ^ 31) :
    IntOp.cmpi .sgt a (BitVec.ofNat 32 n) = BitVec.ofBool (decide ((n : ℤ) < a.toInt)) := by
  rw [sgt_word, toInt_small n h]

theorem sle_small (m n : ℕ) (hm : m < 2 ^ 31) (hn : n < 2 ^ 31) :
    IntOp.cmpi .sle (BitVec.ofNat 32 m) (BitVec.ofNat 32 n) = BitVec.ofBool (decide (m ≤ n)) := by
  show BitVec.ofBool (decide ((BitVec.ofNat 32 m).toInt ≤ (BitVec.ofNat 32 n).toInt)) = _
  rw [toInt_small m hm, toInt_small n hn]
  exact congrArg BitVec.ofBool (decide_eq_decide.mpr Int.ofNat_le)

/-- Counting up to row `o + r` is counting up to row `o` and then among the `r` rows from it on. -/
theorem card_split (P : ℕ → Prop) (o r : ℕ) : ((Finset.range (o + r)).filter P).card
    = ((Finset.range o).filter P).card + ((Finset.Ico o (o + r)).filter P).card := by
  rw [← Finset.card_union_of_disjoint]
  · congr 1
    ext k
    simp only [Finset.mem_union, Finset.mem_filter, Finset.mem_range, Finset.mem_Ico]
    constructor
    · rintro ⟨h, h'⟩
      rcases Nat.lt_or_ge k o with h'' | h''
      · exact Or.inl ⟨h'', h'⟩
      · exact Or.inr ⟨⟨h'', h⟩, h'⟩
    · rintro (⟨h, h'⟩ | ⟨⟨_, h⟩, h'⟩)
      · exact ⟨by omega, h'⟩
      · exact ⟨h, h'⟩
  · rw [Finset.disjoint_left]
    intro k h h'
    rw [Finset.mem_filter, Finset.mem_range] at h
    rw [Finset.mem_filter, Finset.mem_Ico] at h'
    omega

theorem card_succ (P : ℕ → Prop) (n : ℕ) : ((Finset.range (n + 1)).filter P).card
    = ((Finset.range n).filter P).card + if P n then 1 else 0 := by
  rw [Finset.range_add_one, Finset.filter_insert]
  split
  · rw [Finset.card_insert_of_notMem (by simp)]
  · rfl

/-- A row of the triangle counts the rows up to its own. -/
theorem triangle_count (P : ℕ → Prop) (o : ℕ) (r : Fin 1024) :
    (∑ c : Fin 1024, if (c : ℕ) ≤ r then (if P (o + c) then (1 : EReal) else 0) else 0)
      = (((Finset.Ico o (o + (r + 1))).filter P).card : EReal) := by
  rw [← sum_count, Finset.sum_Ico_eq_sum_range, ← Finset.sum_range (fun c => if c ≤ (r : ℕ) then (if P (o + c) then (1 : EReal) else 0) else 0)]
  have hsub : Finset.range (o + (r + 1) - o) ⊆ Finset.range 1024 := by
    intro k hk
    rw [Finset.mem_range] at hk ⊢
    omega
  rw [← Finset.sum_subset hsub fun k _ hk => ?_]
  · refine Finset.sum_congr rfl fun k hk => ?_
    rw [Finset.mem_range] at hk
    rw [if_pos (show k ≤ (r : ℕ) by omega)]
  · rw [Finset.mem_range] at hk
    rw [if_neg (show ¬ k ≤ (r : ℕ) by omega)]

/-- 1024 rows' indicators add up to how many there are. -/
theorem tile_count (P : ℕ → Prop) (o : ℕ) :
    (∑ c : Fin 1024, if P (o + c) then (1 : EReal) else 0) = (((Finset.Ico o (o + 1024)).filter P).card : EReal) := by
  rw [← sum_count, Finset.sum_Ico_eq_sum_range, ← Finset.sum_range (fun c => if P (o + c) then (1 : EReal) else 0), Nat.add_sub_cancel_left]

section Tile
variable (b : ℕ → ℤ) (X o : ℕ) (hX : X < 2 ^ 31) (v : Vec Ideal S1024x1 .i32)
  (hv : ∀ r : Fin 1024, (v (ix2 r (0 : Fin 1)) : BitVec 32).toInt = b (o + r))

include hX hv

theorem tie_apply (r : Fin 1024) (l : Fin 1) : k0_pay48 (F := Ideal) (BitVec.ofNat 32 X) v (ix2 r l) = if Tie b X (o + r) then 1 else 0 := by
  obtain rfl : l = 0 := Subsingleton.elim _ _
  pointwise [k0_pay48, k0_pay47, k0_pay46]
  rw [eq_small _ X hX, hv, select_bool]
  simp only [decide_eq_true_eq]
  exact ite_iff Iff.rfl

omit hX hv in
/-- Of rows with a property: those before a row, counted up to the tile and then within it. -/
theorem before_row (P : ℕ → Prop) (r : Fin 1024) :
    ((((Finset.range o).filter P).card : ℕ) : EReal)
        + (∑ c : Fin 1024, if (c : ℕ) ≤ r then (if P (o + c) then (1 : EReal) else 0) else 0)
      = ((((Finset.range (o + r)).filter P).card + (if P (o + r) then 1 else 0) : ℕ) : EReal) := by
  rw [triangle_count P, nat_add, ← card_split, ← Nat.add_assoc, card_succ]

omit hX hv in
theorem nat_drop (n : ℕ) (p : Prop) [Decidable p] : ((n + (if p then 1 else 0) : ℕ) : EReal) - (if p then 1 else 0) = (n : EReal) := by
  split
  · rw [nat_pred _ (by omega), Nat.add_sub_cancel]
  · rw [sub_zero, Nat.add_zero]

omit hX hv in
theorem toInt_real (n : ℕ) (h : n < 2 ^ 31) : (((BitVec.ofNat 32 n).toInt : ℝ) : EReal) = (n : EReal) := by
  rw [toInt_small n h]; push_cast; rfl

theorem chosen_apply (hT : tiesBefore b X o < 2 ^ 31) (r : Fin 1024) (l : Fin 1) :
    k0_pay50 (F := Ideal) (BitVec.ofNat 32 X) (BitVec.ofNat 32 (wanted b X)) (BitVec.ofNat 32 (tiesBefore b X o)) v (ix2 r l)
      = if Chosen b X (o + r) then 1 else 0 := by
  obtain rfl : l = 0 := Subsingleton.elim _ _
  have hw : wanted b X < 2 ^ 31 := by unfold wanted; omega
  pointwise [k0_pay50, k0_pay49, k0_pay47, k0_pay46, k0_pay45, tie_apply b X o hX v hv]
  have ht : ∀ c : Fin 1024, IntOp.cmpi .sle (BitVec.ofNat 32 (c : ℕ)) (BitVec.ofNat 32 (r : ℕ)) = BitVec.ofBool (decide ((c : ℕ) ≤ r)) :=
    fun c => sle_small _ _ (by omega) (by omega)
  simp only [ht, select_bool, decide_eq_true_eq, toInt_real _ hT, toInt_real _ hw]
  rw [eq_small _ X hX, sgt_small _ X hX, hv, show tiesBefore b X o = ((Finset.range o).filter (Tie b X)).card from rfl, before_row,
    nat_drop, andi_bool, ori_bool, select_bool]
  refine ite_iff ?_
  simp only [Bool.or_eq_true, Bool.and_eq_true, decide_eq_true_eq, nat_lt]
  exact Iff.rfl

/-- Up to each row of the tile: how many of its rows are selected. -/
theorem upto_apply (hT : tiesBefore b X o < 2 ^ 31) (r : Fin 1024) (l : Fin 1) :
    k0_pay51 (F := Ideal) (BitVec.ofNat 32 X) (BitVec.ofNat 32 (wanted b X)) (BitVec.ofNat 32 (tiesBefore b X o)) v (ix2 r l)
      = ∑ c : Fin 1024, if (c : ℕ) ≤ r then (if Chosen b X (o + c) then (1 : EReal) else 0) else 0 := by
  obtain rfl : l = 0 := Subsingleton.elim _ _
  pointwise [k0_pay51, k0_pay49, chosen_apply b X o hX v hv hT]
  have ht : ∀ c : Fin 1024, IntOp.cmpi .sle (BitVec.ofNat 32 (c : ℕ)) (BitVec.ofNat 32 (r : ℕ)) = BitVec.ofBool (decide ((c : ℕ) ≤ r)) :=
    fun c => sle_small _ _ (by omega) (by omega)
  simp only [ht, select_bool, decide_eq_true_eq]

end Tile

section Add
variable (b : ℕ → ℤ) (X o : ℕ)

/-- The result after the tile: each selected row is added at its slot. -/
theorem added_apply (T : ℕ → ℕ → EReal) (hS : slot b X (o + 1024) < 2 ^ 31) (s u g : FVec Ideal S1024x1 .f32)
    (acc x : Vec Ideal S1024x8 .f32) (hs : ∀ (r : Fin 1024) (l : Fin 1), s (ix2 r l) = if Chosen b X (o + r) then 1 else 0)
    (hu : ∀ (r : Fin 1024) (l : Fin 1), u (ix2 r l) = ∑ c : Fin 1024, if (c : ℕ) ≤ r then (if Chosen b X (o + c) then (1 : EReal) else 0) else 0)
    (hg : ∀ (r : Fin 1024) (l : Fin 1), g (ix2 r l) = ((slot b X o : ℕ) : EReal))
    (hx : ∀ (r : Fin 1024) (d : Fin 8), x (ix2 r d) = T (o + r) d) (p : Fin 1024) (d : Fin 8) :
    k0_pay1 (F := Ideal) s u g acc x (ix2 p d) = acc (ix2 p d) + ∑ r : Fin 1024, share b X T p d (o + r) := by
  pointwise [k0_pay1]
  refine congrArg _ (Finset.sum_congr rfl fun r _ => ?_)
  rw [hs, hu, hg, hx, word_half, word_neg_one, show slot b X o = ((Finset.range o).filter (Chosen b X)).card from rfl,
    before_row]
  unfold share
  simp only [half_lt_ite]
  have hle : slot b X (o + r) < 2 ^ 31 := by
    refine lt_of_le_of_lt (Finset.card_le_card (Finset.filter_subset_filter _ (Finset.range_mono ?_))) hS
    have := r.2
    omega
  by_cases hc : Chosen b X (o + r)
  · have en := nat_drop ((Finset.range (o + r)).filter (Chosen b X)).card (Chosen b X (o + r))
    simp only [if_pos hc] at en ⊢
    rw [en]
    show Scalar.select (IntOp.cmpi .eq _ (Ideal.fptosi 32 ((slot b X (o + r) : ℕ) : EReal))) _ _ = _
    rw [fptosi_nat _ hle, eq_small _ _ hle, toInt_small _ (by omega), select_bool]
    refine if_congr ?_ rfl rfl
    rw [decide_eq_true_eq]
    constructor
    · intro h; exact ⟨hc, by omega⟩
    · rintro ⟨_, h⟩; omega
  · rw [if_neg hc, if_neg fun h => hc h.1]
    show Scalar.select (BitVec.ofBool (BitVec.ofNat 32 (p : ℕ) == Ideal.fptosi 32 (-1))) _ _ = _
    rw [fptosi_neg_one, select_bool, if_neg]
    rw [beq_iff_eq]
    intro h
    have := congrArg BitVec.toNat h
    simp only [BitVec.toNat_ofNat] at this
    omega

/-- How many rows are selected before the next tile. -/
theorem slots_apply (s : FVec Ideal S1024x1 .f32) (P : ℕ → Prop)
    (hs : ∀ (r : Fin 1024) (l : Fin 1), s (ix2 r l) = if P (o + r) then 1 else 0) (h : ((Finset.range (o + 1024)).filter P).card < 2 ^ 31) :
    Scalar.fptosi 32 (k0_pay2 (F := Ideal) (k0_pay44 (BitVec.ofNat 32 ((Finset.range o).filter P).card)) s)
      = BitVec.ofNat 32 ((Finset.range (o + 1024)).filter P).card := by
  have hle : ((Finset.range o).filter P).card ≤ ((Finset.range (o + 1024)).filter P).card := by rw [card_split]; omega
  have e : k0_pay2 (F := Ideal) (k0_pay44 (BitVec.ofNat 32 ((Finset.range o).filter P).card)) s
      = ((((Finset.range (o + 1024)).filter P).card : ℕ) : EReal) := by
    pointwise [k0_pay2, k0_pay44]
    simp only [hs, Finset.univ_unique, Finset.sum_singleton]
    rw [tile_count P, toInt_real _ (by omega), nat_add, ← card_split]
  rw [e]
  exact fptosi_nat _ h

end Add
end Cert.Proof
end
-- ==== Proof.SelStep.lean ====
module

public import proofs.«01_k».proof.Proof.SelTile
public import Idealize.ShloMosaic.Lib.VecWindow
public import Idealize.ShloMosaic.Lib.WritesUnit
public import Idealize.ShloMosaic.Lib.WholeRead

/-!
One point of the first call takes what is held after the rows before its tile to what is held after its tile.
-/

@[expose] public section
set_option maxRecDepth 65536
noncomputable section
namespace Cert.Proof
open Cert.Kernel2Ideal Cert.Kernel2Ideal.Gen
open Idealize.ShloMosaic
open scoped Classical

/-- What is held after the rows before `n`: the word, the count of ties taken, the rows selected and the ties so far, and the
rows selected so far in their slots. -/
def Held (b : ℕ → ℤ) (X : ℕ) (T : ℕ → ℕ → EReal) (n : ℕ) (out : Vec Ideal S1024x8 .f32) (st : Vec Ideal S1x4 .i32) : Prop :=
  st (ix2 (0 : Fin 1) (0 : Fin 4)) = BitVec.ofNat 32 X ∧ st (ix2 (0 : Fin 1) (1 : Fin 4)) = BitVec.ofNat 32 (wanted b X)
    ∧ st (ix2 (0 : Fin 1) (2 : Fin 4)) = BitVec.ofNat 32 (slot b X n)
    ∧ st (ix2 (0 : Fin 1) (3 : Fin 4)) = BitVec.ofNat 32 (tiesBefore b X n)
    ∧ ∀ (p : Fin 1024) (d : Fin 8), out (ix2 p d) = packed b X T n p d

theorem packed_add (b : ℕ → ℤ) (x : ℤ) (T : ℕ → ℕ → EReal) (n p d : ℕ) :
    packed b x T n p d + ∑ r : Fin 1024, share b x T p d (n + r) = packed b x T (n + 1024) p d := by
  unfold packed
  rw [Finset.sum_range_add, Finset.sum_range (fun k => share b x T p d (n + k))]

theorem count_small (P : ℕ → Prop) (n : ℕ) (hn : n ≤ 20480) : ((Finset.range n).filter P).card < 2 ^ 31 := by
  refine lt_of_le_of_lt (Finset.card_filter_le _ _) ?_
  rw [Finset.card_range]
  omega

section Cells
variable {sp : Space} (v : View sig .tc sp S1x4 .i32) (f : v.ty.Contents (Elt Ideal)) (off : Fin 2 → ℕ)
  (inb : ∀ a, off a + S1x1.size a ≤ S1x4.size a) (w : BitVec 32) (L : List (View.Piece (Elt Ideal) S1x4 .i32)) (k j : Fin 4)

/-- The cell last written holds what was written. -/
theorem cell_hit (ho : off = ![0, (k : ℕ)]) :
    v.read (Elt Ideal) (v.writes (Elt Ideal) f ((⟨Rect.unit off S1x1.size inb, fun _ => w⟩ : View.Piece (Elt Ideal) S1x4 .i32) :: L)) (ix2 (0 : Fin 1) k) = w :=
  View.read_writes_cons_unit_of_mem v f inb (fun _ => w) L (ix2 (0 : Fin 1) k) (ix2 (0 : Fin 1) (0 : Fin 1)) ho fun a => by
    fin_cases a <;> rfl

/-- Every other cell holds what it held. -/
theorem cell_miss (ho : off = ![0, (k : ℕ)]) (hj : (j : ℕ) ≠ k) :
    v.read (Elt Ideal) (v.writes (Elt Ideal) f ((⟨Rect.unit off S1x1.size inb, fun _ => w⟩ : View.Piece (Elt Ideal) S1x4 .i32) :: L)) (ix2 (0 : Fin 1) j)
      = v.read (Elt Ideal) (v.writes (Elt Ideal) f L) (ix2 (0 : Fin 1) j) :=
  View.read_writes_cons_unit_of_not_mem v f inb (fun _ => w) L (ix2 (0 : Fin 1) j) ho 1 (by
    show (j : ℕ) < (k : ℕ) ∨ (k : ℕ) + 1 ≤ (j : ℕ)
    omega)

end Cells

/-- A point's selected rows and ties, counted on from those before it. -/
theorem counts_on (b : ℕ → ℤ) (X : ℕ) (n : ℕ) (hn : n + 1024 ≤ 20480) (hX : X < 2 ^ 31) (x1 : Vec Ideal S1024x1 .i32)
    (h1 : ∀ r : Fin 1024, (x1 (ix2 r (0 : Fin 1)) : BitVec 32).toInt = b (n + r)) :
    Scalar.fptosi 32 (k0_pay2 (F := Ideal) (k0_pay44 (BitVec.ofNat 32 (slot b X n)))
        (k0_pay50 (BitVec.ofNat 32 X) (BitVec.ofNat 32 (wanted b X)) (BitVec.ofNat 32 (tiesBefore b X n)) x1))
      = BitVec.ofNat 32 (slot b X (n + 1024))
    ∧ Scalar.fptosi 32 (k0_pay3 (F := Ideal) (k0_pay45 (BitVec.ofNat 32 (tiesBefore b X n))) (k0_pay48 (BitVec.ofNat 32 X) x1))
      = BitVec.ofNat 32 (tiesBefore b X (n + 1024)) :=
  ⟨slots_apply n _ (Chosen b X) (fun r l => chosen_apply b X n hX x1 h1 (count_small _ n (by omega)) r l) (count_small _ _ hn),
    slots_apply n _ (Tie b X) (fun r l => tie_apply b X n hX x1 h1 r l) (count_small _ _ hn)⟩

/-- A point's selected rows, added to the result in their slots. -/
theorem rows_on (b : ℕ → ℤ) (X : ℕ) (T : ℕ → ℕ → EReal) (n : ℕ) (hn : n + 1024 ≤ 20480) (hX : X < 2 ^ 31) (x1 : Vec Ideal S1024x1 .i32)
    (h1 : ∀ r : Fin 1024, (x1 (ix2 r (0 : Fin 1)) : BitVec 32).toInt = b (n + r)) (acc x2 : Vec Ideal S1024x8 .f32)
    (h2 : ∀ (r : Fin 1024) (d : Fin 8), x2 (ix2 r d) = T (n + r) d) (ha : ∀ (p : Fin 1024) (d : Fin 8), acc (ix2 p d) = packed b X T n p d)
    (p : Fin 1024) (d : Fin 8) :
    k0_pay1 (F := Ideal) (k0_pay50 (BitVec.ofNat 32 X) (BitVec.ofNat 32 (wanted b X)) (BitVec.ofNat 32 (tiesBefore b X n)) x1)
        (k0_pay51 (BitVec.ofNat 32 X) (BitVec.ofNat 32 (wanted b X)) (BitVec.ofNat 32 (tiesBefore b X n)) x1)
        (k0_pay52 (BitVec.ofNat 32 (slot b X n))) acc x2 (ix2 p d) = packed b X T (n + 1024) p d := by
  have hT := count_small (Tie b X) n (by omega)
  rw [added_apply b X n T (count_small _ _ hn) _ _ _ acc x2 (chosen_apply b X n hX x1 h1 hT) (upto_apply b X n hX x1 h1 hT) (fun r l => ?_) h2,
    ha, packed_add]
  pointwise [k0_pay52, k0_pay44]
  exact toInt_real _ (count_small _ n (by omega))

section Step
variable (c : Dev nD) (i : grid0.Coords) (arg1 : Memref sig .tc .vmem S160x128 .i32) (harg1 : arg1.IsWhole)
  (arg2 : Memref sig .tc .vmem S1024x1 .i32) (harg2 : arg2.IsWhole) (arg3 : Memref sig .tc .vmem S1024x8 .f32) (harg3 : arg3.IsWhole)
  (arg4 : Memref sig .tc .vmem S1024x8 .f32) (harg4 : arg4.IsWhole) (arg5 : Memref sig .tc .smem S1x4 .i32) (harg5 : arg5.IsWhole)
  (x0 : Vec Ideal S160x128 .i32) (x1 : Vec Ideal S1024x1 .i32) (x2 : Vec Ideal S1024x8 .f32)
  (b : ℕ → ℤ) (X : ℕ) (T : ℕ → ℕ → EReal) (n : ℕ) (hn : n + 1024 ≤ 20480) (hX : X < 2 ^ 31)
  (h1 : ∀ r : Fin 1024, (x1 (ix2 r (0 : Fin 1)) : BitVec 32).toInt = b (n + r)) (h2 : ∀ (r : Fin 1024) (d : Fin 8), x2 (ix2 r d) = T (n + r) d)

theorem read_tile : View.readAt (Elt Ideal) arg2.view (Rect.unit ![0, 0] S1024x1.size inb_S1024x1_S1024x1_0_0).toLoadRect (harg2.unread x1) = x1 :=
  (View.readAt_full arg2.view _ _).trans (harg2.read_unread x1)

theorem read_rows : View.readAt (Elt Ideal) arg3.view (Rect.unit ![0, 0] S1024x8.size inb_S1024x8_S1024x8_0_0).toLoadRect (harg3.unread x2) = x2 :=
  (View.readAt_full arg3.view _ _).trans (harg3.read_unread x2)

theorem slot_word (st : Vec Ideal S1x4 .i32) (k : Fin 4) (off : Fin 2 → ℕ) (ho : off = ![0, (k : ℕ)])
    (inb : ∀ a, off a + S1x1.size a ≤ S1x4.size a) (hp : 0 < S1x1.numel) :
    View.readAt (Elt Ideal) arg5.view (Rect.unit (s := S1x4) off S1x1.size inb).toLoadRect (harg5.unread st) (Shape.Idx.first hp)
      = st (ix2 (0 : Fin 1) k) := by
  subst ho
  refine (Memref.IsWhole.readAt_unread harg5 st _ _).trans ?_
  congr 1
  funext a
  fin_cases a <;> exact Fin.ext (by simp [Rect.unit, Shape.Idx.first])

include hn hX h1 h2 in
theorem stepB (hc : ¬ cond0_0 i) (out : Vec Ideal S1024x8 .f32) (st : Vec Ideal S1x4 .i32) (H : Held b X T n out st) :
    Held b X T (n + 1024) (out0_B_3 c i arg1 harg1 arg2 harg2 arg3 harg3 arg4 harg4 arg5 harg5 hc x0 x1 x2 out st)
      (sout0_B_0 c i arg1 harg1 arg2 harg2 arg3 harg3 arg4 harg4 arg5 harg5 hc x0 x1 x2 out st) := by
  obtain ⟨H0, H1, H2, H3, H4⟩ := H
  have e0 : kernelRun0_B.sl.r c arg5 harg5 st = BitVec.ofNat 32 X := (slot_word arg5 harg5 st 0 _ rfl _ _).trans H0
  have e1 : kernelRun0_B.sl.r_1 c arg5 harg5 st = BitVec.ofNat 32 (wanted b X) := (slot_word arg5 harg5 st 1 _ rfl _ _).trans H1
  have e2 : kernelRun0_B.sl.r_2 c arg5 harg5 st = BitVec.ofNat 32 (slot b X n) := (slot_word arg5 harg5 st 2 _ rfl _ _).trans H2
  have e3 : kernelRun0_B.sl.r_3 c arg5 harg5 st = BitVec.ofNat 32 (tiesBefore b X n) := (slot_word arg5 harg5 st 3 _ rfl _ _).trans H3
  have t6 : kernelRun0_B.sl.r_6 (F := Ideal) c arg2 harg2 arg5 harg5 x1 st = k0_pay48 (BitVec.ofNat 32 X) x1 := by
    unfold kernelRun0_B.sl.r_6; rw [e0, read_tile]
  have t7 : kernelRun0_B.sl.r_7 (F := Ideal) c arg2 harg2 arg5 harg5 x1 st
      = k0_pay50 (BitVec.ofNat 32 X) (BitVec.ofNat 32 (wanted b X)) (BitVec.ofNat 32 (tiesBefore b X n)) x1 := by
    unfold kernelRun0_B.sl.r_7; rw [e0, e1, e3, read_tile]
  have t8 : kernelRun0_B.sl.r_8 (F := Ideal) c arg2 harg2 arg5 harg5 x1 st
      = k0_pay51 (BitVec.ofNat 32 X) (BitVec.ofNat 32 (wanted b X)) (BitVec.ofNat 32 (tiesBefore b X n)) x1 := by
    unfold kernelRun0_B.sl.r_8; rw [e0, e1, e3, read_tile]
  have t9 : kernelRun0_B.sl.r_9 (F := Ideal) c arg5 harg5 st = k0_pay52 (BitVec.ofNat 32 (slot b X n)) := by
    unfold kernelRun0_B.sl.r_9; rw [e2]
  obtain ⟨c2, c3⟩ := counts_on b X n hn hX x1 h1
  have cells : sout0_B_0 c i arg1 harg1 arg2 harg2 arg3 harg3 arg4 harg4 arg5 harg5 hc x0 x1 x2 out st
      = arg5.view.read (Elt Ideal) (arg5.view.writes (Elt Ideal) (harg5.unread st)
        [⟨Rect.unit ![0, 3] S1x1.size inb_S1x4_S1x1_0_3, fun _ => BitVec.ofNat 32 (tiesBefore b X (n + 1024))⟩,
          ⟨Rect.unit ![0, 2] S1x1.size inb_S1x4_S1x1_0_2, fun _ => BitVec.ofNat 32 (slot b X (n + 1024))⟩]) := by
    unfold sout0_B_0 kernelRun0_B
    dsimp only
    unfold kernelRun0_B.sl.r_4 kernelRun0_B.sl.r_5
    rw [t6, t7, e2, e3, c2, c3]
  have kept : ∀ j : Fin 4, arg5.view.read (Elt Ideal) (arg5.view.writes (Elt Ideal) (harg5.unread st) []) (ix2 (0 : Fin 1) j)
      = st (ix2 (0 : Fin 1) j) := fun j => congrFun (harg5.read_unread st) _
  rw [cells]
  refine ⟨?_, ?_, ?_, ?_, fun p d => ?_⟩
  · exact (cell_miss _ _ _ _ _ _ 3 0 rfl (by decide)).trans ((cell_miss _ _ _ _ _ _ 2 0 rfl (by decide)).trans ((kept 0).trans H0))
  · exact (cell_miss _ _ _ _ _ _ 3 1 rfl (by decide)).trans ((cell_miss _ _ _ _ _ _ 2 1 rfl (by decide)).trans ((kept 1).trans H1))
  · exact (cell_miss _ _ _ _ _ _ 3 2 rfl (by decide)).trans (cell_hit _ _ _ _ _ _ 2 rfl)
  · exact cell_hit _ _ _ _ _ _ 3 rfl
  · unfold out0_B_3 kernelRun0_B
    dsimp only
    refine (congrFun (View.read_writes_full (Val := Elt Ideal) VO0_3 _ (off := ![0, 0]) inb_S1024x8_S1024x8_0_0 _ _) (ix2 p d)).trans ?_
    rw [t7, t8, t9, read_rows, read_rows]
    exact rows_on b X T n hn hX x1 h1 out x2 h2 H4 p d

theorem read_words (r : Fin 160) (l : Fin 128) : readWords (F := Ideal) arg1 harg1 x0 (ix2 r l) = x0 (ix2 r l) := by
  have e : View.readAt (Elt Ideal) arg1.view (Rect.unit ![0, 0] S160x128.size inb_S160x128_S160x128_0_0).toLoadRect (harg1.unread x0) = x0 :=
    (View.readAt_full arg1.view _ _).trans (harg1.read_unread x0)
  exact congrFun ((congrArg (k0_pay5 (F := Ideal)) e).trans (shapeCast_id x0 _)) (ix2 r l)

theorem stepA (hc : cond0_0 i) (h0 : ∀ (r : Fin 160) (l : Fin 128), (x0 (ix2 r l) : BitVec 32).toInt = b (r * 128 + l))
    (h1 : ∀ r : Fin 1024, (x1 (ix2 r (0 : Fin 1)) : BitVec 32).toInt = b (0 + r)) (h2 : ∀ (r : Fin 1024) (d : Fin 8), x2 (ix2 r d) = T (0 + r) d)
    (hb : ∀ i, b i < 2 ^ 31) (hpos : 1000 ≤ atLeast b 0) :
    Held b (pivot b) T (0 + 1024) (out0_A_3 c i arg1 harg1 arg2 harg2 arg3 harg3 arg4 harg4 arg5 harg5 hc x0 x1 x2)
      (sout0_A_0 c i arg1 harg1 arg2 harg2 arg3 harg3 arg4 harg4 arg5 harg5 hc x0 x1 x2) := by
  obtain ⟨hX, p1, p2⟩ := pivot_spec b hpos hb
  have hs : ∀ (r : Fin 160) (l : Fin 128), (readWords (F := Ideal) arg1 harg1 x0 (ix2 r l)).toInt = b (r * 128 + l) := fun r l => by
    rw [read_words, h0]
  have hbig : atLeast b ((2 ^ 31 : ℕ) : ℤ) < 1000 := by
    unfold atLeast
    rw [Finset.filter_false_of_mem fun i _ h => absurd (hb i) (by push_cast at h; omega)]
    simp
  have w0 : kernelRun0_A.sl.v509 (F := Ideal) c arg1 harg1 x0 = BitVec.ofNat 32 (pivot b) :=
    (word_found c arg1 harg1 x0).trans (searchWord_eq b _ hs hpos hbig 31 (le_refl _))
  have w1 : kernelRun0_A.sl.v523 (F := Ideal) c arg1 harg1 x0 = BitVec.ofNat 32 (wanted b (pivot b)) := by
    rw [wanted_found, ← word_found c arg1 harg1 x0, w0]
    exact wanted_eq b _ hs _ hX p2
  have s0 : (0#32 : BitVec 32) = BitVec.ofNat 32 (slot b (pivot b) 0) := by simp [slot]
  have s1 : (0#32 : BitVec 32) = BitVec.ofNat 32 (tiesBefore b (pivot b) 0) := by simp [tiesBefore]
  have t14 : kernelRun0_A.sl.r_14 (F := Ideal) c arg1 harg1 arg2 harg2 x0 x1 = k0_pay48 (BitVec.ofNat 32 (pivot b)) x1 := by
    unfold kernelRun0_A.sl.r_14; rw [w0, read_tile]
  have t15 : kernelRun0_A.sl.r_15 (F := Ideal) c arg1 harg1 arg2 harg2 x0 x1
      = k0_pay50 (BitVec.ofNat 32 (pivot b)) (BitVec.ofNat 32 (wanted b (pivot b))) (BitVec.ofNat 32 (tiesBefore b (pivot b) 0)) x1 := by
    unfold kernelRun0_A.sl.r_15; rw [w0, w1, read_tile, s1]
  have t16 : kernelRun0_A.sl.r_16 (F := Ideal) c arg1 harg1 arg2 harg2 x0 x1
      = k0_pay51 (BitVec.ofNat 32 (pivot b)) (BitVec.ofNat 32 (wanted b (pivot b))) (BitVec.ofNat 32 (tiesBefore b (pivot b) 0)) x1 := by
    unfold kernelRun0_A.sl.r_16; rw [w0, w1, read_tile, s1]
  have t17 : kernelRun0_A.sl.r_17 (F := Ideal) = k0_pay52 (BitVec.ofNat 32 (slot b (pivot b) 0)) := by
    unfold kernelRun0_A.sl.r_17; rw [s0]
  have t12 : kernelRun0_A.sl.r_12 (F := Ideal) = k0_pay44 (BitVec.ofNat 32 (slot b (pivot b) 0)) := by
    unfold kernelRun0_A.sl.r_12; rw [s0]
  have t13 : kernelRun0_A.sl.r_13 (F := Ideal) = k0_pay45 (BitVec.ofNat 32 (tiesBefore b (pivot b) 0)) := by
    unfold kernelRun0_A.sl.r_13; rw [s1]
  obtain ⟨c2, c3⟩ := counts_on b (pivot b) 0 (by omega) hX x1 h1
  refine ⟨?_, ?_, ?_, ?_, fun p d => ?_⟩
  · unfold sout0_A_0 kernelRun0_A
    dsimp only
    refine (cell_miss _ _ _ _ _ _ 3 0 rfl (by decide)).trans ((cell_miss _ _ _ _ _ _ 2 0 rfl (by decide)).trans ?_)
    refine (cell_miss _ _ _ _ _ _ 3 0 rfl (by decide)).trans ((cell_miss _ _ _ _ _ _ 2 0 rfl (by decide)).trans ?_)
    exact (cell_miss _ _ _ _ _ _ 1 0 rfl (by decide)).trans ((cell_hit _ _ _ _ _ _ 0 rfl).trans w0)
  · unfold sout0_A_0 kernelRun0_A
    dsimp only
    refine (cell_miss _ _ _ _ _ _ 3 1 rfl (by decide)).trans ((cell_miss _ _ _ _ _ _ 2 1 rfl (by decide)).trans ?_)
    refine (cell_miss _ _ _ _ _ _ 3 1 rfl (by decide)).trans ((cell_miss _ _ _ _ _ _ 2 1 rfl (by decide)).trans ?_)
    exact (cell_hit _ _ _ _ _ _ 1 rfl).trans w1
  · unfold sout0_A_0 kernelRun0_A
    dsimp only
    refine (cell_miss _ _ _ _ _ _ 3 2 rfl (by decide)).trans ((cell_hit _ _ _ _ _ _ 2 rfl).trans ?_)
    rw [t12, t15, c2]
  · unfold sout0_A_0 kernelRun0_A
    dsimp only
    refine (cell_hit _ _ _ _ _ _ 3 rfl).trans ?_
    rw [t13, t14, c3]
  · unfold out0_A_3 kernelRun0_A
    dsimp only
    refine (congrFun (View.read_writes_full (Val := Elt Ideal) VO0_3 _ (off := ![0, 0]) inb_S1024x8_S1024x8_0_0 _ _) (ix2 p d)).trans ?_
    have t52 : (kernelRun0_A.sl.v52 (F := Ideal) c arg4 : Vec Ideal S1024x8 .f32) = k0_pay4 (F := Ideal) :=
      View.readCov_full (Val := Elt Ideal) arg4.view inb_S1024x8_S1024x8_0_0 inb_S1024x8_S1024x8_0_0 _ _
    rw [t15, t16, t17, t52, read_rows]
    exact rows_on b (pivot b) T 0 (by omega) hX x1 h1 _ x2 h2 (fun p d => by pointwise [k0_pay4]; simp [packed]) p d

end Step
end Cert.Proof
end
-- ==== Proof.SelRun.lean ====
module

public import proofs.«01_k».proof.Proof.SelStep
public import Idealize.ShloMosaic.Lib.Claim
public import Idealize.ShloMosaic.Lib.Pipeline.ValueKit
public import Idealize.ShloMosaic.Lib.StableHlo.RunRead

/-!
What the first call leaves in its result, said of the numbers and the table it is given.
-/

@[expose] public section
set_option maxRecDepth 65536
noncomputable section
namespace Cert.Proof
open Cert.Kernel2Ideal Cert.Kernel2Ideal.Gen Cert.Kernel2Ideal.Value
open Idealize.ShloMosaic Idealize.SL.Sem
open Idealize.ShloMosaic.TcCoe

/-- The numbers of 20480 words. -/
def numbersOf (B : S20480.Idx → BitVec 32) (i : ℕ) : ℤ := if h : i < 20480 then (B (ix1 ⟨i, h⟩)).toInt else 0

theorem numbersOf_apply (B : S20480.Idx → BitVec 32) (i : Fin 20480) : (B (ix1 i)).toInt = numbersOf B i := by
  unfold numbersOf
  rw [dif_pos i.2]

theorem numbersOf_lt (B : S20480.Idx → BitVec 32) (i : ℕ) : numbersOf B i < 2 ^ 31 := by
  unfold numbersOf
  split
  · have := BitVec.toInt_lt (x := B (ix1 ⟨i, by assumption⟩))
    simpa using this
  · norm_num

/-- A table of 20480 rows and 8 columns, at natural numbers. -/
def longTable (A : S20480x8.Idx → EReal) (i d : ℕ) : EReal := if h : i < 20480 ∧ d < 8 then A (ix2 ⟨i, h.1⟩ ⟨d, h.2⟩) else 0

theorem longTable_apply (A : S20480x8.Idx → EReal) (i : Fin 20480) (d : Fin 8) : A (ix2 i d) = longTable A i d := by
  unfold longTable
  rw [dif_pos ⟨i.2, d.2⟩]

section Blocks
variable (m : (ℓ : Loc nD τ sig) → Buf (Elt Ideal) ℓ) (c : Dev nD) (t : Fin cfg0.N)

theorem first_block (r : Fin 160) (l : Fin 128) : (iblk m c 0 t : S160x128.Idx → BitVec 32) (ix2 r l)
    = (m ((c.tc : Thread nD τ).loc main_arg0) : S20480.Idx → BitVec 32) (ix1 ⟨r * 128 + l, by omega⟩) := by
  unfold iblk
  blk_simp
  have e : (win0_0.blk t).view.emb (ix2 r l) = ix2 r l := by
    funext a; apply Fin.ext; fin_cases a <;> blk_simp
    · show 0 * 160 + (r : ℕ) = r; omega
    · show 0 * 128 + (l : ℕ) = l; omega
  rw [e]
  show V m c main_v0 (ix2 r l) = _
  unfold V
  after_reads_simp
  pointwise
  done

theorem tile_index : ∀ t : Fin cfg0.N, win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt : (t : ℕ) < 20 := lt_of_lt_of_eq t.2 N_0

theorem second_block (r : Fin 1024) : (iblk m c 1 t : S1024x1.Idx → BitVec 32) (ix2 r (0 : Fin 1))
    = (m ((c.tc : Thread nD τ).loc main_arg0) : S20480.Idx → BitVec 32) (ix1 ⟨1024 * t + r, by have := point_lt t; omega⟩) := by
  obtain ⟨e0, e1, -, -⟩ := tile_index t
  unfold iblk
  blk_simp
  have e : (win0_1.blk t).view.emb (ix2 r (0 : Fin 1)) = ix2 (⟨1024 * t + r, by have := point_lt t; omega⟩ : Fin 20480) (0 : Fin 1) := by
    funext a; apply Fin.ext; fin_cases a <;> blk_simp
    · show win0_1.index t (0 : Fin 2) * 1024 + (r : ℕ) = 1024 * t + r; rw [e0]; omega
    · show win0_1.index t (1 : Fin 2) * 1 + 0 = 0; rw [e1]
  rw [e]
  show V m c main_v1 _ = _
  unfold V
  after_reads_simp
  pointwise

theorem third_block (r : Fin 1024) (d : Fin 8) : (iblk m c 2 t : S1024x8.Idx → EReal) (ix2 r d)
    = (m ((c.tc : Thread nD τ).loc main_arg1) : S20480x8.Idx → EReal) (ix2 ⟨1024 * t + r, by have := point_lt t; omega⟩ d) := by
  obtain ⟨-, -, e0, e1⟩ := tile_index t
  unfold iblk
  blk_simp
  have e : (win0_2.blk t).view.emb (ix2 r d) = ix2 (⟨1024 * t + r, by have := point_lt t; omega⟩ : Fin 20480) d := by
    funext a; apply Fin.ext; fin_cases a <;> blk_simp
    · show win0_2.index t (0 : Fin 2) * 1024 + (r : ℕ) = 1024 * t + r; rw [e0]; omega
    · show win0_2.index t (1 : Fin 2) * 8 + (d : ℕ) = d; rw [e1]; omega
  rw [e]
  exact congrFun (V_main_arg1 m c) _

end Blocks

section Fold
variable (m : (ℓ : Loc nD τ sig) → Buf (Elt Ideal) ℓ) (c : Dev nD) (b : ℕ → ℤ) (T : ℕ → ℕ → EReal)
  (hb : ∀ i, b i < 2 ^ 31) (hpos : 1000 ≤ atLeast b 0)
  (hB : ∀ i : Fin 20480, ((m ((c.tc : Thread nD τ).loc main_arg0) : S20480.Idx → BitVec 32) (ix1 i)).toInt = b i)
  (hA : ∀ (i : Fin 20480) (d : Fin 8), (m ((c.tc : Thread nD τ).loc main_arg1) : S20480x8.Idx → EReal) (ix2 i d) = T i d)

/-- What is held, of the pair a point leaves. -/
def HeldPair (n : ℕ) (s : Vec Ideal S1024x8 .f32 × Vec Ideal S1x4 .i32) : Prop := Held b (pivot b) T n s.1 s.2

theorem held_pair {n : ℕ} {o : Vec Ideal S1024x8 .f32} {s : Vec Ideal S1x4 .i32} (h : Held b (pivot b) T n o s) : HeldPair b T n (o, s) := h

include hb hpos hB hA in
/-- The first point. -/
theorem first_point (t : Fin cfg0.N) (ht : (t : ℕ) = 0) (acc : Vec Ideal S1024x8 .f32 × Vec Ideal S1x4 .i32) :
    HeldPair b T (0 + 1024) (stAt0 m c t.val t.isLt acc) := by
  rw [stAt0_A m c t acc (by rw [ht])]
  refine held_pair b T (stepA c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) (iblk m c 2 t) b T _ (fun r l => ?_) (fun r => ?_) (fun r d => ?_) hb hpos)
  · rw [first_block, hB]
  · rw [second_block, hB]; exact congrArg b (by show 1024 * (t : ℕ) + r = 0 + r; omega)
  · rw [third_block, hA]; exact congrFun (congrArg T (by show 1024 * (t : ℕ) + r = 0 + r; omega)) _

include hb hpos hB hA in
/-- A later point, over what the points before it hold. -/
theorem later_point (t : Fin cfg0.N) (ht : ¬ (t : ℕ) % 20 = 0) (acc : Vec Ideal S1024x8 .f32 × Vec Ideal S1x4 .i32)
    (H : HeldPair b T (1024 * t) acc) : HeldPair b T (1024 * t + 1024) (stAt0 m c t.val t.isLt acc) := by
  have hn := point_lt t
  rw [stAt0_B m c t acc ht]
  refine held_pair b T (stepB c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) (iblk m c 2 t) b (pivot b) T (1024 * t) (by omega) (pivot_spec b hpos hb).1
    (fun r => ?_) (fun r d => ?_) _ acc.1 acc.2 H)
  · rw [second_block, hB]
  · rw [third_block, hA]

include hb hpos hB hA in
/-- After point `k` what is held is what the rows of its tile and those before make. -/
theorem held_after (k : ℕ) (hk : k < cfg0.N) : HeldPair b T (1024 * k + 1024) (outsAt0 m c k hk) := by
  have hN : cfg0.N = 20 := N_0
  induction k with
  | zero =>
    rw [outsAt0_zero, Nat.mul_zero]
    exact first_point m c b T hb hpos hB hA ⟨0, hk⟩ rfl _
  | succ k ih =>
    rw [outsAt0_succ m c k hk]
    refine later_point m c b T hb hpos hB hA ⟨k + 1, hk⟩ (by show ¬ (k + 1) % 20 = 0; omega) _ ?_
    show HeldPair b T (1024 * (k + 1)) _
    rw [Nat.mul_add, Nat.mul_one]
    exact ih _

include hb hpos hB hA in
/-- The result of the first call. -/
theorem first_result (p : Fin 1024) (d : Fin 8) : (G3 m c : S1024x8.Idx → EReal) (ix2 p d) = packed b (pivot b) T 20480 p d := by
  have h := held_after m c b T hb hpos hB hA 19 (lt_of_lt_of_eq (by decide) N_0.symm)
  rw [outsAt0_sweep, show 1024 * 19 + 1024 = 20480 by norm_num] at h
  obtain ⟨-, -, -, -, e⟩ := h
  rw [G3_last]
  exact e p d

end Fold
end Cert.Proof
end
-- ==== Proof.SelTake.lean ====
/-
What the second reference computes: the positions `top_k` returns, sorted, the rows taken by number, the padding.
-/
module

public import proofs.«01_k».proof.Proof.Gen.Reference2Ideal.Run
public import proofs.«01_k».proof.Proof.Gen.Pre_words
public import proofs.«01_k».proof.Proof.SelOrder
public import proofs.«01_k».proof.Proof.SelRun
public import Idealize.ShloMosaic.Lib.ReduceAll
public import Idealize.ShloMosaic.Lib.DynamicIndex
public import Idealize.ShloMosaic.Lib.Routing.Ops

@[expose] public section

set_option maxRecDepth 65536

noncomputable section

namespace Cert.Proof.Rows

open Idealize.ShloMosaic
open Cert.Reference2Ideal Cert.Reference2Ideal.Gen

/-- Row numbers as a column, a negative one counted from the end. -/
def rowWords (idx : IVec S1000 32) : IVec S1000x1 32 :=
  broadcastInDim S1000x1 ![0] bcast_S1000_S1000x1_0 (select (cmpi .slt idx (broadcastInDim S1000 ![] bcast_S_S1000 (constantI S_ 32 0#32)))
    (addi idx (broadcastInDim S1000 ![] bcast_S_S1000 (constantI S_ 32 20480#32))) idx)

/-- Which of them are row numbers. -/
def rowMask (w : IVec S1000x1 32) : IVec S1000x1 1 :=
  andi (cmpi .sge w (broadcastInDim S1000x1 ![] bcast_S_S1000x1 (constantI S_ 32 0#32)))
    (cmpi .sle w (broadcastInDim S1000x1 ![0, 1] bcast_S1x1_S1000x1_0_1 (broadcastInDim S1x1 ![1] bcast_S1_S1x1_1 (constantI S1 32 20479#32))))

/-- The rows of these numbers. -/
def rowsAt (x : FVec Ideal S20480x8 .f32) (idx : IVec S1000 32) : FVec Ideal S1000x8 .f32 :=
  select (broadcastInDim S1000x8 ![0] bcast_S1000_S1000x8_0
      (Host.reduce IntOp.andi (rowMask (rowWords idx)) (constantI S_ 1 1#1) reducesTo_S1000x1_S1000_d1 h_S_))
    (Host.gather gather_S20480x8_S1000x1_S1000x8_1_0_n_n_0_1_18 x (rowWords idx))
    (broadcastInDim S1000x8 ![] bcast_S_S1000x8 (constant S_ .f32 0x7FC00000#32))

/-- The row numbers the reference takes. -/
def takenRows (B : IVec S20480 32) : IVec S1000 32 :=
  Host.sort S1000 0 comparator_i32_d0 ((Host.topK S1000 0 (IntOp.cmpi .sgt) B sliceFits_S20480_S1000).2)

/-- The result of the reference. -/
def taken (B : IVec S20480 32) (A : FVec Ideal S20480x8 .f32) : FVec Ideal S1024x8 .f32 :=
  pad S1024x8 ![0, 0] ![24, 0] ![0, 0] (rowsAt A (takenRows B)) (sitofp .f32 (constantI S_ 32 0#32)) pads_S1000x8_S1024x8_0240_000 h_S_

theorem row_word (k : ℕ) (hk : k < 20480) : (BitVec.ofNat 32 k).toInt = k := toInt_ofNat_of_lt (k := k) (by omega)

theorem slt_row (k : ℕ) (hk : k < 20480) : IntOp.cmpi .slt (BitVec.ofNat 32 k) 0#32 = 0#1 := by
  show BitVec.ofBool (BitVec.slt (BitVec.ofNat 32 k) 0#32) = 0#1
  rw [BitVec.slt_eq_decide, row_word k hk, show (0#32).toInt = 0 by decide, decide_eq_false (by omega)]
  rfl

theorem sge_row (k : ℕ) (hk : k < 20480) : IntOp.cmpi .sge (BitVec.ofNat 32 k) 0#32 = 1#1 := by
  show BitVec.ofBool (BitVec.sle 0#32 (BitVec.ofNat 32 k)) = 1#1
  rw [BitVec.sle_eq_decide, row_word k hk, show (0#32).toInt = 0 by decide, decide_eq_true (by omega)]
  rfl

theorem sle_row (k : ℕ) (hk : k < 20480) : IntOp.cmpi .sle (BitVec.ofNat 32 k) 20479#32 = 1#1 := by
  show BitVec.ofBool (BitVec.sle (BitVec.ofNat 32 k) 20479#32) = 1#1
  rw [BitVec.sle_eq_decide, row_word k hk, show (20479#32).toInt = 20479 by decide, decide_eq_true (by omega)]
  rfl

section Take
variable (idx : IVec S1000 32) (s : Fin 1000 → Fin 20480) (h : ∀ p, idx (ix1 p) = BitVec.ofNat 32 (s p : Fin 20480))

include h in
theorem rowWords_apply (p : Fin 1000) (l : Fin 1) : rowWords idx (ix2 p l) = BitVec.ofNat 32 (s p : Fin 20480) := by
  have e : rowWords idx (ix2 p l) = Scalar.select (IntOp.cmpi .slt (idx (ix1 p)) 0#32) (IntOp.addi (idx (ix1 p)) 20480#32) (idx (ix1 p)) := by
    pointwise [rowWords]
  rw [e, h, slt_row _ (s p).2]
  rfl

omit h in
theorem rowMask_apply (w : IVec S1000x1 32) (hw : ∀ (p : Fin 1000) (l : Fin 1), w (ix2 p l) = BitVec.ofNat 32 (s p : Fin 20480))
    (j : S1000x1.Idx) : rowMask w j = 1#1 := by
  have e : ∀ (p : Fin 1000) (l : Fin 1), rowMask w (ix2 p l) = IntOp.andi (IntOp.cmpi .sge (w (ix2 p l)) 0#32) (IntOp.cmpi .sle (w (ix2 p l)) 20479#32) := by
    intro p l
    pointwise [rowMask]
  have e2 : ∀ (p : Fin 1000) (l : Fin 1), rowMask w (ix2 p l) = 1#1 := by
    intro p l
    rw [e, hw, sge_row _ (s p).2, sle_row _ (s p).2]
    rfl
  exact (congrArg (rowMask w) (eq_ix2 (n0 := 1000) (n1 := 1) j)).trans (e2 _ _)

include h in
/-- The row taken by a row number. -/
theorem rowsAt_apply (x : FVec Ideal S20480x8 .f32) (p : Fin 1000) (d : Fin 8) : rowsAt x idx (ix2 p d) = x (ix2 (s p) d) := by
  have e : rowsAt x idx (ix2 p d) = Scalar.select
      (Host.reduce IntOp.andi (rowMask (rowWords idx)) (constantI S_ 1 1#1) reducesTo_S1000x1_S1000_d1 h_S_ (ix1 p))
      (Host.gather gather_S20480x8_S1000x1_S1000x8_1_0_n_n_0_1_18 x (rowWords idx) (ix2 p d)) (Ideal.ofBits .f32 0x7FC00000#32) := by
    unfold rowsAt
    generalize rowMask (rowWords idx) = u
    generalize rowWords idx = w
    generalize Host.reduce IntOp.andi u (constantI S_ 1 1#1) reducesTo_S1000x1_S1000_d1 h_S_ = v
    generalize Host.gather gather_S20480x8_S1000x1_S1000x8_1_0_n_n_0_1_18 x w = y
    pointwise
  rw [e, Host.reduce_andi_one _ _ _ _ _ rfl (rowMask_apply s _ (rowWords_apply idx s h))]
  refine Eq.trans ?_ (Routing.gather_row gather_S20480x8_S1000x1_S1000x8_1_0_n_n_0_1_18 rfl rfl rfl rfl rfl x (rowWords idx) p d (s p)
    (rowWords_apply idx s h p 0) (by norm_num))
  rfl

end Take

/-- A place in a row of numbers. -/
theorem ofFin_place {n : ℕ} (k : Fin n) : (Shape.Idx.ofFin k : (⟨1, ![n]⟩ : Shape).Idx) = ix1 k := by
  funext a; apply Fin.ext; fin_cases a; rfl

/-- A greater number comes first. -/
theorem sgt_key (B : IVec S20480 32) (b : ℕ → ℤ) (hB : ∀ i : Fin 20480, (B (ix1 i)).toInt = b i) (k k' : Fin 20480) :
    (IntOp.cmpi .sgt (B (ix1 k)) (B (ix1 k')) == 1#1) = greater (key b) k k' := by
  rw [Bool.eq_iff_iff, greater_iff, key_lt, ← hB, ← hB]
  show (BitVec.ofBool (BitVec.slt (B (ix1 k')) (B (ix1 k))) == 1#1) = true ↔ _
  rw [BitVec.slt_eq_decide]
  by_cases h : (B (ix1 k')).toInt < (B (ix1 k)).toInt <;> simp [h]

/-- A lower row comes first. -/
theorem slt_key (b : ℕ → ℤ) (k k' : Fin 1000) :
    (comparator_i32_d0 (BitVec.ofNat 32 (topRow b k : Fin 20480)) (BitVec.ofNat 32 (topRow b k' : Fin 20480)) == 1#1) = greater (key (negated b)) k k' := by
  rw [Bool.eq_iff_iff, greater_iff, key_lt, negated_apply, negated_apply]
  show (BitVec.ofBool (BitVec.slt (BitVec.ofNat 32 (topRow b k : Fin 20480)) (BitVec.ofNat 32 (topRow b k' : Fin 20480))) == 1#1) = true ↔ _
  rw [BitVec.slt_eq_decide, row_word _ (topRow b k).2, row_word _ (topRow b k').2]
  generalize ((topRow b k : ℕ) : ℤ) = u
  generalize ((topRow b k' : ℕ) : ℤ) = v
  by_cases h : u < v <;> simp [h]

/-- The positions `top_k` returns. -/
theorem top_rows (B : IVec S20480 32) (b : ℕ → ℤ) (hB : ∀ i : Fin 20480, (B (ix1 i)).toInt = b i) (p : Fin 1000) :
    (Host.topK S1000 0 (IntOp.cmpi .sgt) B sliceFits_S20480_S1000).2 (ix1 p) = BitVec.ofNat 32 (topRow b p : Fin 20480) := by
  have e : (Host.topK S1000 0 (IntOp.cmpi .sgt) B sliceFits_S20480_S1000).2 (ix1 p)
      = BitVec.ofNat 32 (sortedFrom (fun k k' : Fin 20480 => IntOp.cmpi .sgt (B (Shape.Idx.ofFin k)) (B (Shape.Idx.ofFin k')) == 1#1)
          ⟨p, lt_trans p.2 (by norm_num)⟩ : Fin 20480) := by
    unfold Host.topK Host.sort2 extractStridedSlice
    simp [iotaInDim]
    done
  have eR : (fun k k' : Fin 20480 => IntOp.cmpi .sgt (B (Shape.Idx.ofFin k)) (B (Shape.Idx.ofFin k')) == 1#1) = greater (key b) := by
    funext k k'
    rw [ofFin_place, ofFin_place, sgt_key B b hB]
  rw [e, eR]
  unfold topRow placeOrder
  exact Eq.refl _

/-- The positions, sorted. -/
theorem takenRows_apply (B : IVec S20480 32) (b : ℕ → ℤ) (hB : ∀ i : Fin 20480, (B (ix1 i)).toInt = b i) (p : Fin 1000) :
    takenRows B (ix1 p) = BitVec.ofNat 32 (nthRow b p : Fin 20480) := by
  have top := top_rows B b hB
  unfold takenRows
  generalize (Host.topK S1000 0 (IntOp.cmpi .sgt) B sliceFits_S20480_S1000).2 = w at top ⊢
  have e : Host.sort S1000 0 comparator_i32_d0 w (ix1 p)
      = w (Shape.Idx.ofFin (sortedFrom (fun k k' : Fin 1000 => comparator_i32_d0 (w (Shape.Idx.ofFin k)) (w (Shape.Idx.ofFin k')) == 1#1) p)) := by
    unfold Host.sort
    simp
    done
  have eR : (fun k k' : Fin 1000 => comparator_i32_d0 (w (Shape.Idx.ofFin k)) (w (Shape.Idx.ofFin k')) == 1#1) = greater (key (negated b)) := by
    funext k k'
    rw [ofFin_place, ofFin_place, top, top]
    exact slt_key b k k'
  rw [e, eR, ofFin_place, top]
  unfold nthRow placeOrder
  exact Eq.refl _

/-- What the reference returns. -/
theorem taken_apply (B : IVec S20480 32) (A : FVec Ideal S20480x8 .f32) (b : ℕ → ℤ) (hB : ∀ i : Fin 20480, (B (ix1 i)).toInt = b i)
    (T : ℕ → ℕ → EReal) (hA : ∀ (i : Fin 20480) (d : Fin 8), A (ix2 i d) = T i d) (p : Fin 1024) (d : Fin 8) :
    taken B A (ix2 p d) = if h : (p : ℕ) < 1000 then T (nthRow b ⟨p, h⟩) d else 0 := by
  have rows : ∀ (q : Fin 1000) (d : Fin 8), rowsAt A (takenRows B) (ix2 q d) = T (nthRow b q) d := fun q d => by
    rw [rowsAt_apply (takenRows B) (nthRow b) (takenRows_apply B b hB) A q d, hA]
  unfold taken
  generalize rowsAt A (takenRows B) = y at rows ⊢
  by_cases h : (p : ℕ) < 1000
  · rw [dif_pos h, ← rows]
    unfold pad
    rw [dif_pos (by intro a; fin_cases a <;> simp [h, Nat.mod_one])]
    congr 1
    funext a; apply Fin.ext; fin_cases a <;> simp
  · rw [dif_neg h]
    unfold pad
    rw [dif_neg (by intro hh; have := (hh 0).2.2; simp at this; omega)]
    show (((0#32 : BitVec 32).toInt : ℝ) : EReal) = 0
    simp

end Cert.Proof.Rows

end
-- ==== Proof.SelValue.lean ====
/-
The first call and its reference compute the same table.
-/
module

public import proofs.«01_k».proof.Proof.SelTake

@[expose] public section

set_option maxRecDepth 65536

noncomputable section

namespace Cert.Proof.Rows

open Idealize.ShloMosaic Idealize.ShloMosaic.TcCoe Idealize.SL.Sem

section Precondition
open Cert.Pre_words Cert.Pre_words.Gen

/-- Which of the first 20000 numbers are not negative. -/
def numbersOk (B : IVec S20480 32) : IVec S20000 1 :=
  cmpi .sge (extractStridedSlice S20000 ![0] B slices_S20480_S20000_0) (broadcastInDim S20000 ![] bcast_S_S20000 (constantI S_ 32 0#32))

theorem numbersOk_apply (B : IVec S20480 32) (i : Fin 20000) :
    numbersOk B (ix1 i) = IntOp.cmpi .sge (B (ix1 (⟨i, lt_trans i.2 (by norm_num)⟩ : Fin 20480))) 0#32 := by
  pointwise [numbersOk]

/-- The precondition, decoded: at least 1000 numbers are not negative. -/
theorem words_of_pre (B : IVec S20480 32) (A : FVec Ideal S20480x8 .f32) (h : Cert.Pre_words.fn (F := Ideal) B A = fun _ => 1#1) :
    1000 ≤ atLeast (numbersOf B) 0 := by
  have h' : Host.reduce IntOp.andi (numbersOk B) (constantI S_ 1 1#1) reducesTo_S20000_S_d0 h_S_ (Shape.Idx.first h_S_) = 1#1 :=
    congrFun h (Shape.Idx.first Cert.Pre_words.Gen.h_S_)
  have : Subsingleton S_.Idx := ⟨fun a b => funext fun i => i.elim0⟩
  unfold atLeast
  have sub : Finset.range 1000 ⊆ (Finset.range 20480).filter (fun i => 0 ≤ numbersOf B i) := fun i hi => by
    have hi' := Finset.mem_range.mp hi
    refine Finset.mem_filter.mpr ⟨Finset.mem_range.mpr (by omega), ?_⟩
    have e := Host.reduce_andi_all _ _ _ _ _ h' (ix1 (⟨i, by omega⟩ : Fin 20000))
    rw [numbersOk_apply] at e
    have e2 : BitVec.ofBool (BitVec.sle 0#32 (B (ix1 (⟨i, by omega⟩ : Fin 20480)))) = 1#1 := e
    rw [BitVec.sle_eq_decide, numbersOf_apply, show (0#32).toInt = 0 by decide] at e2
    by_contra hn
    rw [decide_eq_false hn] at e2
    exact absurd e2 (by decide)
  have := Finset.card_le_card sub
  rwa [Finset.card_range] at this

end Precondition

/-- Kernel and reference, from the same numbers and the same rows. -/
theorem first_call_eq (m : (ℓ : Loc Cert.Kernel2Ideal.nD Cert.Kernel2Ideal.τ Cert.Kernel2Ideal.sig) → Buf (Elt Ideal) ℓ) (c : Dev Cert.Kernel2Ideal.nD)
    (h : 1000 ≤ atLeast (numbersOf (m ((c.tc : Thread Cert.Kernel2Ideal.nD Cert.Kernel2Ideal.τ).loc Cert.Kernel2Ideal.main_arg0))) 0) :
    taken (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)) = Cert.Kernel2Ideal.Value.G3 m c := by
  have hB := numbersOf_apply (m ((c.tc : Thread Cert.Kernel2Ideal.nD Cert.Kernel2Ideal.τ).loc Cert.Kernel2Ideal.main_arg0))
  have hA := longTable_apply (m ((c.tc : Thread Cert.Kernel2Ideal.nD Cert.Kernel2Ideal.τ).loc Cert.Kernel2Ideal.main_arg1))
  have hb := numbersOf_lt (m ((c.tc : Thread Cert.Kernel2Ideal.nD Cert.Kernel2Ideal.τ).loc Cert.Kernel2Ideal.main_arg0))
  obtain ⟨-, p1, p2⟩ := pivot_spec _ h hb
  funext j
  obtain ⟨p, d, rfl⟩ : ∃ (p : Fin 1024) (d : Fin 8), j = ix2 p d := ⟨_, _, eq_ix2 (n0 := 1024) (n1 := 8) j⟩
  rw [taken_apply _ _ _ hB _ hA]
  exact (packed_rows _ _ p1 p2 _ p d).symm.trans (first_result m c _ _ hb h hB hA p d).symm

end Cert.Proof.Rows

end
-- ==== Proof.lean ====
/-
  The proof of `Cert.Claim`: one theorem for each of its claims, joined at the end by `claim`.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_selected
public import proofs.«01_k».proof.Proof.Gen.ReferenceIdeal.Run
public import proofs.«01_k».proof.Proof.Gen.Pre_words
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.KernelRun
public import proofs.«01_k».proof.Proof.RefValue
public import proofs.«01_k».proof.Proof.Selection
public import proofs.«01_k».proof.Proof.SelValue
public import Idealize.ShloMosaic.Adequacy
public import Idealize.ShloMosaic.Init

@[expose] public section

noncomputable section

namespace Cert.Proof

open Idealize.ShloMosaic Idealize.SL.Sem

/-- The printed kernel terminates without a fault, leaves its argument alone and every semaphore at zero. -/
theorem frame_kernel : Cert.quiescent_Kernel := fun m ρ _ => Cert.Kernel.Gen.frame m ρ

/-- The same of the kernel read over the extended reals. -/
theorem frame_kernelIdeal : Cert.quiescent_KernelIdeal := fun m ρ _ => Cert.KernelIdeal.Gen.frame m ρ

/-- The same of the reference read over the extended reals: its run, read at the argument; it declares no semaphore. -/
theorem frame_referenceIdeal : Cert.quiescent_ReferenceIdeal := fun m ρ _ =>
  (θ_run Cert.ReferenceIdeal.defs _ _).mono (fun r h =>
    ⟨fun c => (h c Cert.ReferenceIdeal.main_arg0 rfl).trans (Cert.Proof.Ref.final_arg0 m c),
      Idealize.ShloMosaic.sem_eq_zero_of_no_sems (by decide) r.2⟩)
    (Cert.ReferenceIdeal.Value.run_fold (F := Ideal) m ρ)

/-- Of a selection's candidates the kernel and the reference, both read over the extended reals, compute the same
    proposals and the same scores: `proposals` and `finalScores` of the table of candidates. -/
theorem kernel_eq_reference : Cert.algebraic_KernelIdeal_ReferenceIdeal_pre_selected := by
  intro m g m' g' hpre hargs
  have hX : ∀ c : Dev Cert.KernelIdeal.nD, Selected (tableOf (m ((c.tc : Thread Cert.KernelIdeal.nD Cert.KernelIdeal.τ).loc Cert.KernelIdeal.main_arg0))) :=
    fun c => selected_of_pre _ (hpre c)
  exact ⟨fun c => proposals (tableOf (m ((c.tc : Thread Cert.KernelIdeal.nD Cert.KernelIdeal.τ).loc Cert.KernelIdeal.main_arg0))),
    fun c => finalScores (tableOf (m ((c.tc : Thread Cert.KernelIdeal.nD Cert.KernelIdeal.τ).loc Cert.KernelIdeal.main_arg0))),
    kernel_run m g,
    Cert.Proof.Ref.reference_run m' g' (fun c => m ((c.tc : Thread Cert.KernelIdeal.nD Cert.KernelIdeal.τ).loc Cert.KernelIdeal.main_arg0)) hargs hX⟩

/-- The first call terminates without a fault, leaves its arguments alone and every semaphore at zero. -/
theorem frame_kernel2 : Cert.quiescent_Kernel2 := fun m ρ _ => Cert.Kernel2.Gen.frame m ρ

/-- The same of the first call read over the extended reals. -/
theorem frame_kernel2Ideal : Cert.quiescent_Kernel2Ideal := fun m ρ _ => Cert.Kernel2Ideal.Gen.frame m ρ

/-- The same of its reference read over the extended reals. -/
theorem frame_reference2Ideal : Cert.quiescent_Reference2Ideal := fun m ρ _ =>
  (θ_run Cert.Reference2Ideal.defs _ _).mono (fun r h =>
    ⟨fun c => (h c).2, Idealize.ShloMosaic.sem_eq_zero_of_no_sems (by decide) r.2⟩)
    (Cert.Reference2Ideal.Value.run (F := Ideal) m ρ)

/-- Where 1000 numbers are not negative, the first call and its reference, both read over the extended reals, pack the
    same rows. -/
theorem kernel2_eq_reference2 : Cert.algebraic_Kernel2Ideal_Reference2Ideal_pre_words := by
  intro m g m' g' hpre hargs
  refine ⟨fun c => Cert.Kernel2Ideal.Value.G3 m c, Cert.Kernel2Ideal.Value.run m g, ?_⟩
  refine (θ_run Cert.Reference2Ideal.defs _ _).mono (fun r h c => ⟨(h c).1.trans ?_, (h c).2⟩) (Cert.Reference2Ideal.Value.run (F := Ideal) m' g')
  rw [(hargs c).1, (hargs c).2]
  exact Cert.Proof.Rows.first_call_eq m c (Cert.Proof.Rows.words_of_pre _ _ (hpre c))

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_selected.Gen.facts, Cert.Pre_words.Gen.facts,
    frame_kernel, frame_kernelIdeal, fun m ρ _ => frame_kernelIdeal m ρ trivial,
    frame_referenceIdeal, fun m ρ _ => frame_referenceIdeal m ρ trivial,
    frame_kernel2, frame_kernel2Ideal, fun m ρ _ => frame_kernel2Ideal m ρ trivial,
    frame_reference2Ideal, fun m ρ _ => frame_reference2Ideal m ρ trivial,
    trivial, kernel_eq_reference, trivial, kernel2_eq_reference2⟩

end Cert.Proof

end
